-- ==== Defs.lean ====
def Pre_Kernel (m : (ℓ : Loc Cert.Kernel.nD Cert.Kernel.τ Cert.Kernel.sig) → Buf (Elt Bits) ℓ) : Prop :=
  True

def Pre_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![4, 1024, 1024]⟩ ⟨3, ![4, 2048, 1024]⟩ (Layout.meshBlock [2, 2] ![[], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![4, 1024, 32]⟩ ⟨3, ![4, 2048, 32]⟩ (Layout.meshBlock [2, 2] ![[], [0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 1024, 32]⟩ ⟨3, ![4, 2048, 32]⟩ (Layout.meshBlock [2, 2] ![[], [0], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = Layout.blockN ⟨3, ![4, 1024, 1024]⟩ ⟨3, ![4, 2048, 1024]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal) (hPre_finite_KernelIdeal := hPre_finite_KernelIdeal)
    ∧ quiescent_KernelIdeal_pre_none (hKernelIdeal := hKernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal (hKernelIdeal := hKernelIdeal) (hReferenceIdeal := hReferenceIdeal) (hPre_finite_KernelIdeal := hPre_finite_KernelIdeal)
-- ==== Pre_finite_KernelIdeal.lean ====
abbrev S4x1024x1024 : Shape := ⟨3, ![4, 1024, 1024]⟩
abbrev S1024x32 : Shape := ⟨2, ![1024, 32]⟩
abbrev S4x1024x32 : Shape := ⟨3, ![4, 1024, 32]⟩
abbrev S_ : Shape := ⟨0, ![]⟩

class Facts : Prop where
  bitsLt_bf16_f32 : FTy.bits .bf16 < FTy.bits .f32
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S4x1024x32 : S_.BroadcastsInDim S4x1024x32 (![] : Fin 0 → Fin S4x1024x32.rank)
  reducesTo_S4x1024x32_S_d0_1_2 : S4x1024x32.ReducesTo [0, 1, 2] S_

variable [Facts]

def fn_part1 {F : FTy → Type} [FloatOps F] (main_v4 : IVec S_ 1) (main_v9 : IVec S_ 1) (main_v14 : IVec S_ 1) (main_v16 : FVec F S4x1024x32 .f32) (main_cst_4 : FVec F S_ .f32) : IVec S_ 1 × IVec S_ 1 × IVec S_ 1 × IVec S_ 1 :=
  let main_v17 : FVec F S4x1024x32 .f32 := broadcastInDim S4x1024x32 ![] bcast_S_S4x1024x32 main_cst_4
  let main_v18 : IVec S4x1024x32 1 := cmpf .olt main_v16 main_v17
  let main_c_5 : IVec S_ 1 := constantI S_ 1 1#1
  let main_v19 : IVec S_ 1 := (fun x v => Host.reduce IntOp.andi x v reducesTo_S4x1024x32_S_d0_1_2 h_S_) main_v18 main_c_5
  (main_v4, main_v9, main_v14, main_v19)

def fn {F : FTy → Type} [FloatOps F] (main_arg0 : FVec F S4x1024x1024 .bf16) (main_arg1 : FVec F S1024x32 .bf16) (main_arg2 : FVec F S4x1024x32 .bf16) (main_arg3 : FVec F S4x1024x32 .bf16) : IVec S_ 1 × IVec S_ 1 × IVec S_ 1 × IVec S_ 1 :=
  let main_v0 : FVec F S4x1024x1024 .f32 := (extf .f32 · bitsLt_bf16_f32) main_arg0
  let main_v1 : FVec F S4x1024x1024 .f32 := Host.absf main_v0
  let main_cst : FVec F S_ .f32 := constant S_ .f32 0x7F800000#32
  let main_v2 : FVec F S4x1024x1024 .f32 := broadcastInDim S4x1024x1024 ![] bcast_S_S4x1024x1024 main_cst
  let main_v3 : IVec S4x1024x1024 1 := cmpf .olt main_v1 main_v2
  let main_c : IVec S_ 1 := constantI S_ 1 1#1
  let main_v4 : IVec S_ 1 := (fun x v => Host.reduce IntOp.andi x v reducesTo_S4x1024x1024_S_d0_1_2 h_S_) main_v3 main_c
  let main_v5 : FVec F S1024x32 .f32 := (extf .f32 · bitsLt_bf16_f32) main_arg1
  let main_v6 : FVec F S1024x32 .f32 := Host.absf main_v5
  let main_cst_0 : FVec F S_ .f32 := constant S_ .f32 0x7F800000#32
  let main_v7 : FVec F S1024x32 .f32 := broadcastInDim S1024x32 ![] bcast_S_S1024x32 main_cst_0
  let main_v8 : IVec S1024x32 1 := cmpf .olt main_v6 main_v7
  let main_c_1 : IVec S_ 1 := constantI S_ 1 1#1
  let main_v9 : IVec S_ 1 := (fun x v => Host.reduce IntOp.andi x v reducesTo_S1024x32_S_d0_1 h_S_) main_v8 main_c_1
  let main_v10 : FVec F S4x1024x32 .f32 := (extf .f32 · bitsLt_bf16_f32) main_arg2
  let main_v11 : FVec F S4x1024x32 .f32 := Host.absf main_v10
  let main_cst_2 : FVec F S_ .f32 := constant S_ .f32 0x7F800000#32
  let main_v12 : FVec F S4x1024x32 .f32 := broadcastInDim S4x1024x32 ![] bcast_S_S4x1024x32 main_cst_2
  let main_v13 : IVec S4x1024x32 1 := cmpf .olt main_v11 main_v12
  let main_c_3 : IVec S_ 1 := constantI S_ 1 1#1
  let main_v14 : IVec S_ 1 := (fun x v => Host.reduce IntOp.andi x v reducesTo_S4x1024x32_S_d0_1_2 h_S_) main_v13 main_c_3
  let main_v15 : FVec F S4x1024x32 .f32 := (extf .f32 · bitsLt_bf16_f32) main_arg3
  let main_v16 : FVec F S4x1024x32 .f32 := Host.absf main_v15
  let main_cst_4 : FVec F S_ .f32 := constant S_ .f32 0x7F800000#32
  fn_part1 (F := F) main_v4 main_v9 main_v14 main_v16 main_cst_4
-- ==== Pre_finite_ReferenceIdeal.lean ====
abbrev S4x2048x1024 : Shape := ⟨3, ![4, 2048, 1024]⟩
abbrev S1024x32 : Shape := ⟨2, ![1024, 32]⟩
abbrev S4x2048x32 : Shape := ⟨3, ![4, 2048, 32]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S4x2048x32 : S_.BroadcastsInDim S4x2048x32 (![] : Fin 0 → Fin S4x2048x32.rank)
  reducesTo_S4x2048x32_S_d0_1_2 : S4x2048x32.ReducesTo [0, 1, 2] S_

variable [Facts]

def fn_part1 {F : FTy → Type} [FloatOps F] (main_v4 : IVec S_ 1) (main_v9 : IVec S_ 1) (main_v14 : IVec S_ 1) (main_v16 : FVec F S4x2048x32 .f32) (main_cst_4 : FVec F S_ .f32) : IVec S_ 1 × IVec S_ 1 × IVec S_ 1 × IVec S_ 1 :=
  let main_v17 : FVec F S4x2048x32 .f32 := broadcastInDim S4x2048x32 ![] bcast_S_S4x2048x32 main_cst_4
  let main_v18 : IVec S4x2048x32 1 := cmpf .olt main_v16 main_v17
  let main_c_5 : IVec S_ 1 := constantI S_ 1 1#1
  let main_v19 : IVec S_ 1 := (fun x v => Host.reduce IntOp.andi x v reducesTo_S4x2048x32_S_d0_1_2 h_S_) main_v18 main_c_5
  (main_v4, main_v9, main_v14, main_v19)

def fn {F : FTy → Type} [FloatOps F] (main_arg0 : FVec F S4x2048x1024 .bf16) (main_arg1 : FVec F S1024x32 .bf16) (main_arg2 : FVec F S4x2048x32 .bf16) (main_arg3 : FVec F S4x2048x32 .bf16) : IVec S_ 1 × IVec S_ 1 × IVec S_ 1 × IVec S_ 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S1024x32 .f32 := (extf .f32 · bitsLt_bf16_f32) main_arg1
  let main_v6 : FVec F S1024x32 .f32 := Host.absf main_v5
  let main_cst_0 : FVec F S_ .f32 := constant S_ .f32 0x7F800000#32
  let main_v7 : FVec F S1024x32 .f32 := broadcastInDim S1024x32 ![] bcast_S_S1024x32 main_cst_0
  let main_v8 : IVec S1024x32 1 := cmpf .olt main_v6 main_v7
  let main_c_1 : IVec S_ 1 := constantI S_ 1 1#1
  let main_v9 : IVec S_ 1 := (fun x v => Host.reduce IntOp.andi x v reducesTo_S1024x32_S_d0_1 h_S_) main_v8 main_c_1
  let main_v10 : FVec F S4x2048x32 .f32 := (extf .f32 · bitsLt_bf16_f32) main_arg2
  let main_v11 : FVec F S4x2048x32 .f32 := Host.absf main_v10
  let main_cst_2 : FVec F S_ .f32 := constant S_ .f32 0x7F800000#32
  let main_v12 : FVec F S4x2048x32 .f32 := broadcastInDim S4x2048x32 ![] bcast_S_S4x2048x32 main_cst_2
  let main_v13 : IVec S4x2048x32 1 := cmpf .olt main_v11 main_v12
  let main_c_3 : IVec S_ 1 := constantI S_ 1 1#1
  let main_v14 : IVec S_ 1 := (fun x v => Host.reduce IntOp.andi x v reducesTo_S4x2048x32_S_d0_1_2 h_S_) main_v13 main_c_3
  let main_v15 : FVec F S4x2048x32 .f32 := (extf .f32 · bitsLt_bf16_f32) main_arg3
  let main_v16 : FVec F S4x2048x32 .f32 := Host.absf main_v15
  let main_cst_4 : FVec F S_ .f32 := constant S_ .f32 0x7F800000#32
  fn_part1 (F := F) main_v4 main_v9 main_v14 main_v16 main_cst_4
-- ==== Kernel.lean ====
abbrev S4x1024x1024 : Shape := ⟨3, ![4, 1024, 1024]⟩
abbrev S1024x32 : Shape := ⟨2, ![1024, 32]⟩
abbrev S4x1024x32 : Shape := ⟨3, ![4, 1024, 32]⟩
abbrev S_ : Shape := ⟨0, ![]⟩
abbrev S32x1024 : Shape := ⟨2, ![32, 1024]⟩
abbrev S32x512 : Shape := ⟨2, ![32, 512]⟩
abbrev S1024x4x1024 : Shape := ⟨3, ![1024, 4, 1024]⟩
abbrev S1024x4x512 : Shape := ⟨3, ![1024, 4, 512]⟩
abbrev S1024x4x32 : Shape := ⟨3, ![1024, 4, 32]⟩
abbrev S1x32x1024 : Shape := ⟨3, ![1, 32, 1024]⟩
abbrev S4x32x1024 : Shape := ⟨3, ![4, 32, 1024]⟩
abbrev S4x32x512 : Shape := ⟨3, ![4, 32, 512]⟩
abbrev S8 : Shape := ⟨1, ![8]⟩
abbrev S1x32x512 : Shape := ⟨3, ![1, 32, 512]⟩
abbrev S32x4x512 : Shape := ⟨3, ![32, 4, 512]⟩
abbrev S32x4x32 : Shape := ⟨3, ![32, 4, 32]⟩
abbrev S32x4x32x1 : Shape := ⟨4, ![32, 4, 32, 1]⟩
abbrev S1x4x512 : Shape := ⟨3, ![1, 4, 512]⟩
abbrev S4x512 : Shape := ⟨2, ![4, 512]⟩
abbrev S4x1x512 : Shape := ⟨3, ![4, 1, 512]⟩
abbrev S1x4x32x1 : Shape := ⟨4, ![1, 4, 32, 1]⟩
abbrev S4x32x1 : Shape := ⟨3, ![4, 32, 1]⟩
abbrev S1x4x32 : Shape := ⟨3, ![1, 4, 32]⟩
abbrev S4x32 : Shape := ⟨2, ![4, 32]⟩
abbrev S1 : Shape := ⟨1, ![1]⟩
abbrev S128x4x512 : Shape := ⟨3, ![128, 4, 512]⟩
abbrev S1x4x32x512 : Shape := ⟨4, ![1, 4, 32, 512]⟩
abbrev S4x1x32x512 : Shape := ⟨4, ![4, 1, 32, 512]⟩
abbrev S4x4x32x512 : Shape := ⟨4, ![4, 4, 32, 512]⟩
abbrev S1x1x32x512 : Shape := ⟨4, ![1, 1, 32, 512]⟩

abbrev nBuf : Space → Nat
  | .hbm => 67
  | .vmem => 8
  | .smem => 0
  | _ => 0

abbrev bufTy : (tb : Table) → Fin (tcTables nBuf tb) → BufTy
  | .hbm, ⟨0, _⟩ => ⟨S4x1024x1024, .bf16⟩
  | .hbm, ⟨1, _⟩ => ⟨S1024x32, .bf16⟩
  | .hbm, ⟨2, _⟩ => ⟨S4x1024x32, .bf16⟩
  | .hbm, ⟨3, _⟩ => ⟨S4x1024x32, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1024x32, .bf16⟩
  | .hbm, ⟨13, _⟩ => ⟨S32x1024, .bf16⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S32x512, .bf16⟩
  | .hbm, ⟨21, _⟩ => ⟨S1024x4x1024, .bf16⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x4x512, .bf16⟩
  | .hbm, ⟨30, _⟩ => ⟨S1024x4x32, .bf16⟩
  | .hbm, ⟨31, _⟩ => ⟨S1024x4x32, .bf16⟩
  | .hbm, ⟨32, _⟩ => ⟨S32x1024, .bf16⟩
  | .hbm, ⟨33, _⟩ => ⟨S_, .bf16⟩
  | .hbm, ⟨34, _⟩ => ⟨S32x1024, .bf16⟩
  | .hbm, ⟨35, _⟩ => ⟨S32x1024, .bf16⟩
  | .hbm, ⟨36, _⟩ => ⟨S32x1024, .bf16⟩
  | .hbm, ⟨37, _⟩ => ⟨S32x1024, .bf16⟩
  | .hbm, ⟨38, _⟩ => ⟨S_, .bf16⟩
  | .hbm, ⟨39, _⟩ => ⟨S32x1024, .bf16⟩
  | .hbm, ⟨40, _⟩ => ⟨S32x1024, .bf16⟩
  | .hbm, ⟨41, _⟩ => ⟨S32x1024, .bf16⟩
  | .hbm, ⟨42, _⟩ => ⟨S32x1024, .bf16⟩
  | .hbm, ⟨43, _⟩ => ⟨S_, .bf16⟩
  | .hbm, ⟨44, _⟩ => ⟨S32x1024, .bf16⟩
  | .hbm, ⟨45, _⟩ => ⟨S32x1024, .bf16⟩
  | .hbm, ⟨46, _⟩ => ⟨S32x1024, .bf16⟩
  | .hbm, ⟨47, _⟩ => ⟨S32x1024, .bf16⟩
  | .hbm, ⟨48, _⟩ => ⟨S_, .bf16⟩
  | .hbm, ⟨49, _⟩ => ⟨S32x1024, .bf16⟩
  | .hbm, ⟨50, _⟩ => ⟨S32x1024, .bf16⟩
  | .hbm, ⟨51, _⟩ => ⟨S32x1024, .bf16⟩
  | .hbm, ⟨52, _⟩ => ⟨S1x32x1024, .bf16⟩
  | .hbm, ⟨53, _⟩ => ⟨S1x32x1024, .bf16⟩
  | .hbm, ⟨54, _⟩ => ⟨S1x32x1024, .bf16⟩
  | .hbm, ⟨55, _⟩ => ⟨S1x32x1024, .bf16⟩
  | .hbm, ⟨56, _⟩ => ⟨S4x32x1024, .bf16⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S4x32x512, .bf16⟩
  | .hbm, ⟨65, _⟩ => ⟨S1024x4x1024, .bf16⟩
  | .hbm, ⟨66, _⟩ => ⟨S4x1024x1024, .bf16⟩
  | .local _ .vmem, ⟨0, _⟩ => ⟨S1024x4x512, .bf16⟩
  | .local _ .vmem, ⟨1, _⟩ => ⟨S32x512, .bf16⟩
  | .local _ .vmem, ⟨2, _⟩ => ⟨S4x32x512, .bf16⟩
  | .local _ .vmem, ⟨3, _⟩ => ⟨S1024x4x32, .bf16⟩
  | .local _ .vmem, ⟨4, _⟩ => ⟨S1024x4x32, .bf16⟩
  | .local _ .vmem, ⟨5, _⟩ => ⟨S1024x4x1024, .bf16⟩
  | .local _ .vmem, ⟨6, _⟩ => ⟨S4x32x512, .bf16⟩
  | .local _ .vmem, ⟨7, _⟩ => ⟨S4x32x512, .bf16⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_c_6 : Ref sig .tc := ⟨.hbm, 24, rfl⟩
abbrev main_v14 : Ref sig .tc := ⟨.hbm, 25, rfl⟩
abbrev main_v15 : Ref sig .tc := ⟨.hbm, 26, rfl⟩
abbrev main_c_7 : Ref sig .tc := ⟨.hbm, 27, rfl⟩
abbrev main_c_8 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_12 : Ref sig .tc := ⟨.hbm, 57, rfl⟩
abbrev main_v40 : Ref sig .tc := ⟨.hbm, 58, rfl⟩
abbrev main_c_13 : Ref sig .tc := ⟨.hbm, 59, rfl⟩
abbrev main_v41 : Ref sig .tc := ⟨.hbm, 60, rfl⟩
abbrev main_v42 : Ref sig .tc := ⟨.hbm, 61, rfl⟩
abbrev main_c_14 : Ref sig .tc := ⟨.hbm, 62, rfl⟩
abbrev main_c_15 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_2 v2
  let c2_i32_5 : BitVec 32 := 2#32
  let v10 : BitVec 32 := Scalar.muli v8 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_10 : BitVec 32 := 1#32
  let v16 : BitVec 32 := Scalar.muli v9 c1_i32_10
  let v17 : BitVec 32 := Scalar.addi v15 v16
  v17.toNat
@[reducible] def k0_t1_loop : Scf.Loop 32 :=
  let c0_i32_21 : BitVec 32 := 0#32
  let c4_i32 : BitVec 32 := 4#32
  let v30 : BitVec 32 := Scalar.addi c0_i32_21 c4_i32
  let c1_i32_22 : BitVec 32 := 1#32
  ⟨c0_i32_21, v30, c1_i32_22⟩
def k0_off1 (k0_t1 : Fin k0_t1_loop.trips) : Fin 3 → Nat :=
  let c0_i32_21 : BitVec 32 := 0#32
  let c1_i32_22 : BitVec 32 := 1#32
  let arg12 : BitVec 32 := Scf.iv c0_i32_21 c1_i32_22 k0_t1
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off2 (k0_t1 : Fin k0_t1_loop.trips) : Fin 3 → Nat :=
  let c0_i32_21 : BitVec 32 := 0#32
  let c1_i32_22 : BitVec 32 := 1#32
  let arg12 : BitVec 32 := Scf.iv c0_i32_21 c1_i32_22 k0_t1
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off3 (d0 : Dev nD) (k0_t1 : Fin k0_t1_loop.trips) (c0_i32_248 : BitVec 32) : Fin 3 → Nat :=
  let c0_i32_21 : BitVec 32 := 0#32
  let c1_i32_22 : BitVec 32 := 1#32
  let arg12 : BitVec 32 := Scf.iv c0_i32_21 c1_i32_22 k0_t1
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_24 : BitVec 32 := 0#32
  let v32 : BitVec 1 := Scalar.cmpi .eq v2 c0_i32_24
  let v33 : BitVec 32 := Scalar.extui v32
  let c0_i32_27 : BitVec 32 := 0#32
  let v34 : BitVec 1 := Scalar.cmpi .ne v33 c0_i32_27
  v34

def k0_off4 (d0 : Dev nD) : Fin 3 → Nat :=
  let c0_i32_244 : BitVec 32 := 0#32
  let c0_i32_245 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![0, 0, v6.toNat]
def k0_dev3 (d0 : Dev nD) : Nat :=
  let c0_i32_242 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_241 : BitVec 32 := 2#32
  let v225 : BitVec 32 := Scalar.muli v2 c2_i32_241
  let v226 : BitVec 32 := Scalar.addi c0_i32_242 v225
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_13 v5
  let c1_i32_243 : BitVec 32 := 1#32
  let v227 : BitVec 32 := Scalar.muli v21 c1_i32_243
  let v228 : BitVec 32 := Scalar.addi v226 v227
  v228.toNat
@[reducible] def k0_t2_loop : Scf.Loop 32 :=
  let c4_i32_28 : BitVec 32 := 4#32
  let c4_i32_29 : BitVec 32 := 4#32
  let v35 : BitVec 32 := Scalar.addi c4_i32_28 c4_i32_29
  let c1_i32_30 : BitVec 32 := 1#32
  ⟨c4_i32_28, v35, c1_i32_30⟩
def k0_off5 (k0_t2 : Fin k0_t2_loop.trips) : Fin 3 → Nat :=
  let c4_i32_28 : BitVec 32 := 4#32
  let c1_i32_30 : BitVec 32 := 1#32
  let arg12 : BitVec 32 := Scf.iv c4_i32_28 c1_i32_30 k0_t2
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off6 (k0_t2 : Fin k0_t2_loop.trips) : Fin 3 → Nat :=
  let c4_i32_28 : BitVec 32 := 4#32
  let c1_i32_30 : BitVec 32 := 1#32
  let arg12 : BitVec 32 := Scf.iv c4_i32_28 c1_i32_30 k0_t2
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off7 (d0 : Dev nD) (k0_t2 : Fin k0_t2_loop.trips) (c0_i32_248 : BitVec 32) : Fin 3 → Nat :=
  let c4_i32_28 : BitVec 32 := 4#32
  let c1_i32_30 : BitVec 32 := 1#32
  let arg12 : BitVec 32 := Scf.iv c4_i32_28 c1_i32_30 k0_t2
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_off8 (d0 : Dev nD) : Fin 3 → Nat :=
  let c128_i32 : BitVec 32 := 128#32
  let c0_i32_37 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![128, 0, v6.toNat]
def k0_dev4 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v37 : BitVec 32 := Scalar.muli v2 c2_i32_34
  let v38 : BitVec 32 := Scalar.addi c0_i32_35 v37
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v22 : BitVec 32 := Scalar.subi c1_i32_14 v5
  let c1_i32_36 : BitVec 32 := 1#32
  let v39 : BitVec 32 := Scalar.muli v22 c1_i32_36
  let v40 : BitVec 32 := Scalar.addi v38 v39
  v40.toNat
@[reducible] def k0_t3_loop : Scf.Loop 32 :=
  let c8_i32 : BitVec 32 := 8#32
  let c4_i32_40 : BitVec 32 := 4#32
  let v47 : BitVec 32 := Scalar.addi c8_i32 c4_i32_40
  let c1_i32_41 : BitVec 32 := 1#32
  ⟨c8_i32, v47, c1_i32_41⟩
def k0_off9 (k0_t3 : Fin k0_t3_loop.trips) : Fin 3 → Nat :=
  let c8_i32 : BitVec 32 := 8#32
  let c1_i32_41 : BitVec 32 := 1#32
  let arg12 : BitVec 32 := Scf.iv c8_i32 c1_i32_41 k0_t3
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off10 (k0_t3 : Fin k0_t3_loop.trips) : Fin 3 → Nat :=
  let c8_i32 : BitVec 32 := 8#32
  let c1_i32_41 : BitVec 32 := 1#32
  let arg12 : BitVec 32 := Scf.iv c8_i32 c1_i32_41 k0_t3
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off11 (d0 : Dev nD) (k0_t3 : Fin k0_t3_loop.trips) (c0_i32_248 : BitVec 32) : Fin 3 → Nat :=
  let c8_i32 : BitVec 32 := 8#32
  let c1_i32_41 : BitVec 32 := 1#32
  let arg12 : BitVec 32 := Scf.iv c8_i32 c1_i32_41 k0_t3
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_off12 (d0 : Dev nD) : Fin 3 → Nat :=
  let c256_i32 : BitVec 32 := 256#32
  let c0_i32_48 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![256, 0, v6.toNat]
def k0_dev5 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v49 : BitVec 32 := Scalar.muli v2 c2_i32_45
  let v50 : BitVec 32 := Scalar.addi c0_i32_46 v49
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_15 v5
  let c1_i32_47 : BitVec 32 := 1#32
  let v51 : BitVec 32 := Scalar.muli v23 c1_i32_47
  let v52 : BitVec 32 := Scalar.addi v50 v51
  v52.toNat
@[reducible] def k0_t4_loop : Scf.Loop 32 :=
  let c12_i32 : BitVec 32 := 12#32
  let c4_i32_51 : BitVec 32 := 4#32
  let v59 : BitVec 32 := Scalar.addi c12_i32 c4_i32_51
  let c1_i32_52 : BitVec 32 := 1#32
  ⟨c12_i32, v59, c1_i32_52⟩
def k0_off13 (k0_t4 : Fin k0_t4_loop.trips) : Fin 3 → Nat :=
  let c12_i32 : BitVec 32 := 12#32
  let c1_i32_52 : BitVec 32 := 1#32
  let arg12 : BitVec 32 := Scf.iv c12_i32 c1_i32_52 k0_t4
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off14 (k0_t4 : Fin k0_t4_loop.trips) : Fin 3 → Nat :=
  let c12_i32 : BitVec 32 := 12#32
  let c1_i32_52 : BitVec 32 := 1#32
  let arg12 : BitVec 32 := Scf.iv c12_i32 c1_i32_52 k0_t4
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off15 (d0 : Dev nD) (k0_t4 : Fin k0_t4_loop.trips) (c0_i32_248 : BitVec 32) : Fin 3 → Nat :=
  let c12_i32 : BitVec 32 := 12#32
  let c1_i32_52 : BitVec 32 := 1#32
  let arg12 : BitVec 32 := Scf.iv c12_i32 c1_i32_52 k0_t4
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_off16 (d0 : Dev nD) : Fin 3 → Nat :=
  let c384_i32 : BitVec 32 := 384#32
  let c0_i32_58 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![384, 0, v6.toNat]
def k0_dev6 (d0 : Dev nD) : Nat :=
  let c0_i32_56 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_55 : BitVec 32 := 2#32
  let v61 : BitVec 32 := Scalar.muli v2 c2_i32_55
  let v62 : BitVec 32 := Scalar.addi c0_i32_56 v61
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v24 : BitVec 32 := Scalar.subi c1_i32_16 v5
  let c1_i32_57 : BitVec 32 := 1#32
  let v63 : BitVec 32 := Scalar.muli v24 c1_i32_57
  let v64 : BitVec 32 := Scalar.addi v62 v63
  v64.toNat
@[reducible] def k0_t5_loop : Scf.Loop 32 :=
  let c16_i32 : BitVec 32 := 16#32
  let c4_i32_61 : BitVec 32 := 4#32
  let v71 : BitVec 32 := Scalar.addi c16_i32 c4_i32_61
  let c1_i32_62 : BitVec 32 := 1#32
  ⟨c16_i32, v71, c1_i32_62⟩
def k0_off17 (k0_t5 : Fin k0_t5_loop.trips) : Fin 3 → Nat :=
  let c16_i32 : BitVec 32 := 16#32
  let c1_i32_62 : BitVec 32 := 1#32
  let arg12 : BitVec 32 := Scf.iv c16_i32 c1_i32_62 k0_t5
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off18 (k0_t5 : Fin k0_t5_loop.trips) : Fin 3 → Nat :=
  let c16_i32 : BitVec 32 := 16#32
  let c1_i32_62 : BitVec 32 := 1#32
  let arg12 : BitVec 32 := Scf.iv c16_i32 c1_i32_62 k0_t5
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off19 (d0 : Dev nD) (k0_t5 : Fin k0_t5_loop.trips) (c0_i32_248 : BitVec 32) : Fin 3 → Nat :=
  let c16_i32 : BitVec 32 := 16#32
  let c1_i32_62 : BitVec 32 := 1#32
  let arg12 : BitVec 32 := Scf.iv c16_i32 c1_i32_62 k0_t5
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_off20 (d0 : Dev nD) : Fin 3 → Nat :=
  let c512_i32_69 : BitVec 32 := 512#32
  let c0_i32_70 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![512, 0, v6.toNat]
def k0_dev7 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v73 : BitVec 32 := Scalar.muli v2 c2_i32_66
  let v74 : BitVec 32 := Scalar.addi c0_i32_67 v73
  let c1_i32_17 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.subi c1_i32_17 v5
  let c1_i32_68 : BitVec 32 := 1#32
  let v75 : BitVec 32 := Scalar.muli v25 c1_i32_68
  let v76 : BitVec 32 := Scalar.addi v74 v75
  v76.toNat
@[reducible] def k0_t6_loop : Scf.Loop 32 :=
  let c20_i32 : BitVec 32 := 20#32
  let c4_i32_73 : BitVec 32 := 4#32
  let v83 : BitVec 32 := Scalar.addi c20_i32 c4_i32_73
  let c1_i32_74 : BitVec 32 := 1#32
  ⟨c20_i32, v83, c1_i32_74⟩
def k0_off21 (k0_t6 : Fin k0_t6_loop.trips) : Fin 3 → Nat :=
  let c20_i32 : BitVec 32 := 20#32
  let c1_i32_74 : BitVec 32 := 1#32
  let arg12 : BitVec 32 := Scf.iv c20_i32 c1_i32_74 k0_t6
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off22 (k0_t6 : Fin k0_t6_loop.trips) : Fin 3 → Nat :=
  let c20_i32 : BitVec 32 := 20#32
  let c1_i32_74 : BitVec 32 := 1#32
  let arg12 : BitVec 32 := Scf.iv c20_i32 c1_i32_74 k0_t6
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off23 (d0 : Dev nD) (k0_t6 : Fin k0_t6_loop.trips) (c0_i32_248 : BitVec 32) : Fin 3 → Nat :=
  let c20_i32 : BitVec 32 := 20#32
  let c1_i32_74 : BitVec 32 := 1#32
  let arg12 : BitVec 32 := Scf.iv c20_i32 c1_i32_74 k0_t6
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_off24 (d0 : Dev nD) : Fin 3 → Nat :=
  let c640_i32 : BitVec 32 := 640#32
  let c0_i32_80 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![640, 0, v6.toNat]
def k0_dev8 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_77 : BitVec 32 := 2#32
  let v85 : BitVec 32 := Scalar.muli v2 c2_i32_77
  let v86 : BitVec 32 := Scalar.addi c0_i32_78 v85
  let c1_i32_18 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v26 : BitVec 32 := Scalar.subi c1_i32_18 v5
  let c1_i32_79 : BitVec 32 := 1#32
  let v87 : BitVec 32 := Scalar.muli v26 c1_i32_79
  let v88 : BitVec 32 := Scalar.addi v86 v87
  v88.toNat
@[reducible] def k0_t7_loop : Scf.Loop 32 :=
  let c24_i32 : BitVec 32 := 24#32
  let c4_i32_83 : BitVec 32 := 4#32
  let v95 : BitVec 32 := Scalar.addi c24_i32 c4_i32_83
  let c1_i32_84 : BitVec 32 := 1#32
  ⟨c24_i32, v95, c1_i32_84⟩
def k0_off25 (k0_t7 : Fin k0_t7_loop.trips) : Fin 3 → Nat :=
  let c24_i32 : BitVec 32 := 24#32
  let c1_i32_84 : BitVec 32 := 1#32
  let arg12 : BitVec 32 := Scf.iv c24_i32 c1_i32_84 k0_t7
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off26 (k0_t7 : Fin k0_t7_loop.trips) : Fin 3 → Nat :=
  let c24_i32 : BitVec 32 := 24#32
  let c1_i32_84 : BitVec 32 := 1#32
  let arg12 : BitVec 32 := Scf.iv c24_i32 c1_i32_84 k0_t7
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off27 (d0 : Dev nD) (k0_t7 : Fin k0_t7_loop.trips) (c0_i32_248 : BitVec 32) : Fin 3 → Nat :=
  let c24_i32 : BitVec 32 := 24#32
  let c1_i32_84 : BitVec 32 := 1#32
  let arg12 : BitVec 32 := Scf.iv c24_i32 c1_i32_84 k0_t7
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_off28 (d0 : Dev nD) : Fin 3 → Nat :=
  let c768_i32 : BitVec 32 := 768#32
  let c0_i32_90 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![768, 0, v6.toNat]
def k0_dev9 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v97 : BitVec 32 := Scalar.muli v2 c2_i32_87
  let v98 : BitVec 32 := Scalar.addi c0_i32_88 v97
  let c1_i32_19 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v27 : BitVec 32 := Scalar.subi c1_i32_19 v5
  let c1_i32_89 : BitVec 32 := 1#32
  let v99 : BitVec 32 := Scalar.muli v27 c1_i32_89
  let v100 : BitVec 32 := Scalar.addi v98 v99
  v100.toNat
@[reducible] def k0_t8_loop : Scf.Loop 32 :=
  let c28_i32 : BitVec 32 := 28#32
  let c4_i32_93 : BitVec 32 := 4#32
  let v107 : BitVec 32 := Scalar.addi c28_i32 c4_i32_93
  let c1_i32_94 : BitVec 32 := 1#32
  ⟨c28_i32, v107, c1_i32_94⟩
def k0_off29 (k0_t8 : Fin k0_t8_loop.trips) : Fin 3 → Nat :=
  let c28_i32 : BitVec 32 := 28#32
  let c1_i32_94 : BitVec 32 := 1#32
  let arg12 : BitVec 32 := Scf.iv c28_i32 c1_i32_94 k0_t8
  let c32_i32 : BitVec 32 := 32#32
  let v225 : BitVec 32 := Scalar.muli arg12 c32_i32
  let v226 : Index := Scalar.indexCast v225
  let c0_241 : Index := 0#32
  let c0_242 : Index := 0#32
  ![v226.toNat, 0, 0]
def k0_off30 (k0_t8 : Fin k0_t8_loop.trips) : Fin 3 → Nat :=
  let c28_i32 : BitVec 32 := 28#32
  let c1_i32_94 : BitVec 32 := 1#32
  let arg12 : BitVec 32 := Scf.iv c28_i32 c1_i32_94 k0_t8
  let c32_i32 : BitVec 32 := 32#32
  let v225 : BitVec 32 := Scalar.muli arg12 c32_i32
  let v229 : Index := Scalar.indexCast v225
  let c0_243 : Index := 0#32
  let c0_244 : Index := 0#32
  ![v229.toNat, 0, 0]
def k0_off31 (d0 : Dev nD) (k0_t8 : Fin k0_t8_loop.trips) (c0_i32_248 : BitVec 32) : Fin 3 → Nat :=
  let c28_i32 : BitVec 32 := 28#32
  let c1_i32_94 : BitVec 32 := 1#32
  let arg12 : BitVec 32 := Scf.iv c28_i32 c1_i32_94 k0_t8
  let c32_i32 : BitVec 32 := 32#32
  let v225 : BitVec 32 := Scalar.muli arg12 c32_i32
  let v251 : BitVec 32 := Scalar.addi v225 c0_i32_248
  let v252 : Index := Scalar.indexCast v251
  let c0_249 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v253 : Index := Scalar.indexCast v6
  ![v252.toNat, 0, v253.toNat]
def k0_off32 (d0 : Dev nD) : Fin 3 → Nat :=
  let c896_i32 : BitVec 32 := 896#32
  let c0_i32_100 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![896, 0, v6.toNat]
def k0_dev10 (d0 : Dev nD) : Nat :=
  let c0_i32_98 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_97 : BitVec 32 := 2#32
  let v109 : BitVec 32 := Scalar.muli v2 c2_i32_97
  let v110 : BitVec 32 := Scalar.addi c0_i32_98 v109
  let c1_i32_20 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v28 : BitVec 32 := Scalar.subi c1_i32_20 v5
  let c1_i32_99 : BitVec 32 := 1#32
  let v111 : BitVec 32 := Scalar.muli v28 c1_i32_99
  let v112 : BitVec 32 := Scalar.addi v110 v111
  v112.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_107 : BitVec 32 := 0#32
  let v123 : BitVec 1 := Scalar.cmpi .eq v2 c0_i32_107
  let v124 : BitVec 32 := Scalar.extui v123
  let c0_i32_108 : BitVec 32 := 0#32
  let v125 : BitVec 1 := Scalar.cmpi .ne v124 c0_i32_108
  v125

def k0_dev11 (d0 : Dev nD) : Nat :=
  let c0_i32_242 : BitVec 32 := 0#32
  let c1_i32_106 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v122 : BitVec 32 := Scalar.subi c1_i32_106 v2
  let c2_i32_241 : BitVec 32 := 2#32
  let v225 : BitVec 32 := Scalar.muli v122 c2_i32_241
  let v226 : BitVec 32 := Scalar.addi c0_i32_242 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_243 : BitVec 32 := 1#32
  let v227 : BitVec 32 := Scalar.muli v5 c1_i32_243
  let v228 : BitVec 32 := Scalar.addi v226 v227
  v228.toNat
def k0_cond3 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_109 : BitVec 32 := 1#32
  let v126 : BitVec 1 := Scalar.cmpi .eq v2 c1_i32_109
  let v127 : BitVec 32 := Scalar.extui v126
  let c0_i32_112 : BitVec 32 := 0#32
  let v128 : BitVec 1 := Scalar.cmpi .ne v127 c0_i32_112
  v128

@[reducible] def k0_t9_loop : Scf.Loop 32 :=
  let c0_i32_250 : BitVec 32 := 0#32
  let c4_i32_251 : BitVec 32 := 4#32
  let v237 : BitVec 32 := Scalar.addi c0_i32_250 c4_i32_251
  let c1_i32_252 : BitVec 32 := 1#32
  ⟨c0_i32_250, v237, c1_i32_252⟩
def k0_off33 (d0 : Dev nD) (k0_t9 : Fin k0_t9_loop.trips) (c0_i32_263 : BitVec 32) (c0_i32_262 : BitVec 32) : Fin 3 → Nat :=
  let c0_i32_250 : BitVec 32 := 0#32
  let c1_i32_252 : BitVec 32 := 1#32
  let arg12 : BitVec 32 := Scf.iv c0_i32_250 c1_i32_252 k0_t9
  let c8_i32_261 : BitVec 32 := 8#32
  let v249 : BitVec 32 := Scalar.muli arg12 c8_i32_261
  let v250 : BitVec 32 := Scalar.addi v249 c0_i32_262
  let v254 : BitVec 32 := Scalar.addi c0_i32_263 v250
  let v255 : Index := Scalar.indexCast v254
  let c0_264 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  let v256 : Index := Scalar.indexCast v6
  ![v255.toNat, 0, v256.toNat]
def k0_off34 (k0_t9 : Fin k0_t9_loop.trips) (c0_i32_263 : BitVec 32) (c0_i32_262 : BitVec 32) : Fin 3 → Nat :=
  let c0_i32_250 : BitVec 32 := 0#32
  let c1_i32_252 : BitVec 32 := 1#32
  let arg12 : BitVec 32 := Scf.iv c0_i32_250 c1_i32_252 k0_t9
  let c8_i32_261 : BitVec 32 := 8#32
  let v249 : BitVec 32 := Scalar.muli arg12 c8_i32_261
  let v250 : BitVec 32 := Scalar.addi v249 c0_i32_262
  let v254 : BitVec 32 := Scalar.addi c0_i32_263 v250
  let v259 : Index := Scalar.indexCast v254
  let c0_265 : Index := 0#32
  let c0_266 : Index := 0#32
  ![v259.toNat, 0, 0]
def k0_off35 (d0 : Dev nD) : Fin 3 → Nat :=
  let c0_i32_257 : BitVec 32 := 0#32
  let c0_i32_258 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![0, 0, v6.toNat]
def k0_dev12 (d0 : Dev nD) : Nat :=
  let c0_i32_255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_254 : BitVec 32 := 2#32
  let v239 : BitVec 32 := Scalar.muli v2 c2_i32_254
  let v240 : BitVec 32 := Scalar.addi c0_i32_255 v239
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_13 v5
  let c1_i32_256 : BitVec 32 := 1#32
  let v241 : BitVec 32 := Scalar.muli v21 c1_i32_256
  let v242 : BitVec 32 := Scalar.addi v240 v241
  v242.toNat
def k0_off36 (d0 : Dev nD) : Fin 3 → Nat :=
  let c0_i32_116 : BitVec 32 := 0#32
  let c0_i32_117 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v6 : BitVec 32 := Scalar.muli v5 c512_i32
  ![0, 0, v6.toNat]
abbrev stage0_0 : Fin 1 → Memref sig .tc .vmem S1024x4x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x2048x1024 : Shape := ⟨3, ![4, 2048, 1024]⟩
abbrev S1024x32 : Shape := ⟨2, ![1024, 32]⟩
abbrev S4x2048x32 : Shape := ⟨3, ![4, 2048, 32]⟩
abbrev S2048 : Shape := ⟨1, ![2048]⟩
abbrev S2048x1 : Shape := ⟨2, ![2048, 1]⟩
abbrev S_ : Shape := ⟨0, ![]⟩
abbrev S1x4x2048x1024 : Shape := ⟨4, ![1, 4, 2048, 1024]⟩
abbrev S2x4x2048x1024 : Shape := ⟨4, ![2, 4, 2048, 1024]⟩
abbrev S1x1024x32 : Shape := ⟨3, ![1, 1024, 32]⟩
abbrev S2x2048x4x1024 : Shape := ⟨4, ![2, 2048, 4, 1024]⟩
abbrev S2048x4x32 : Shape := ⟨3, ![2048, 4, 32]⟩
abbrev S4x1024x32 : Shape := ⟨3, ![4, 1024, 32]⟩
abbrev S2x4x1024x32 : Shape := ⟨4, ![2, 4, 1024, 32]⟩
abbrev S2048x2x4x1024 : Shape := ⟨4, ![2048, 2, 4, 1024]⟩
abbrev S1x2x4x1024 : Shape := ⟨4, ![1, 2, 4, 1024]⟩
abbrev S2x4x1024 : Shape := ⟨3, ![2, 4, 1024]⟩
abbrev S1x4x32 : Shape := ⟨3, ![1, 4, 32]⟩
abbrev S4x32 : Shape := ⟨2, ![4, 32]⟩
abbrev S1x1x1024x32 : Shape := ⟨4, ![1, 1, 1024, 32]⟩
abbrev S2x4x1024x1 : Shape := ⟨4, ![2, 4, 1024, 1]⟩
abbrev S4x1x32 : Shape := ⟨3, ![4, 1, 32]⟩
abbrev S1x4x1x32 : Shape := ⟨4, ![1, 4, 1, 32]⟩
abbrev S1x4x1152x1024 : Shape := ⟨4, ![1, 4, 1152, 1024]⟩
abbrev S4x1152x1024 : Shape := ⟨3, ![4, 1152, 1024]⟩
abbrev S1x4x896x1024 : Shape := ⟨4, ![1, 4, 896, 1024]⟩
abbrev S4x896x1024 : Shape := ⟨3, ![4, 896, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S1024x32, .bf16⟩
  | .hbm, ⟨2, _⟩ => ⟨S4x2048x32, .bf16⟩
  | .hbm, ⟨3, _⟩ => ⟨S4x2048x32, .bf16⟩
  | .hbm, ⟨4, _⟩ => ⟨S4x2048x1024, .f32⟩
  | .hbm, ⟨5, _⟩ => ⟨S1024x32, .f32⟩
  | .hbm, ⟨6, _⟩ => ⟨S4x2048x32, .f32⟩
  | .hbm, ⟨7, _⟩ => ⟨S4x2048x32, .f32⟩
  | .hbm, ⟨8, _⟩ => ⟨S2048, .i32⟩
  | .hbm, ⟨9, _⟩ => ⟨S2048x1, .i32⟩
  | .hbm, ⟨10, _⟩ => ⟨S_, .i32⟩
  | .hbm, ⟨11, _⟩ => ⟨S2048x1, .i32⟩
  | .hbm, ⟨12, _⟩ => ⟨S2048x1, .i1⟩
  | .hbm, ⟨13, _⟩ => ⟨S_, .f32⟩
  | .hbm, ⟨14, _⟩ => ⟨S_, .f32⟩
  | .hbm, ⟨15, _⟩ => ⟨S4x2048x1024, .i1⟩
  | .hbm, ⟨16, _⟩ => ⟨S4x2048x1024, .f32⟩
  | .hbm, ⟨17, _⟩ => ⟨S4x2048x1024, .f32⟩
  | .hbm, ⟨18, _⟩ => ⟨S1x4x2048x1024, .f32⟩
  | .hbm, ⟨19, _⟩ => ⟨S1x4x2048x1024, .f32⟩
  | .hbm, ⟨20, _⟩ => ⟨S2x4x2048x1024, .f32⟩
  | .hbm, ⟨21, _⟩ => ⟨S1024x32, .f32⟩
  | .hbm, ⟨22, _⟩ => ⟨S1x1024x32, .f32⟩
  | .hbm, ⟨23, _⟩ => ⟨S2x2048x4x1024, .f32⟩
  | .hbm, ⟨24, _⟩ => ⟨S2048x4x32, .f32⟩
  | .hbm, ⟨25, _⟩ => ⟨S2048x4x32, .f32⟩
  | .hbm, ⟨26, _⟩ => ⟨S_, .f32⟩
  | .hbm, ⟨27, _⟩ => ⟨S4x1024x32, .f32⟩
  | .hbm, ⟨28, _⟩ => ⟨S2x4x1024x32, .f32⟩
  | .hbm, ⟨29, _⟩ => ⟨S2048x2x4x1024, .f32⟩
  | .hbm, ⟨30, _⟩ => ⟨S_, .f32⟩
  | .hbm, ⟨31, _⟩ => ⟨S2048x2x4x1024, .f32⟩
  | .hbm, ⟨32, _⟩ => ⟨S_, .i32⟩
  | .hbm, ⟨33, _⟩ => ⟨S2048x2x4x1024, .f32⟩
  | .hbm, ⟨34, _⟩ => ⟨S2048x4x32, .f32⟩
  | .hbm, ⟨35, _⟩ => ⟨S2048x4x32, .f32⟩
  | .hbm, ⟨36, _⟩ => ⟨S1x1024x32, .f32⟩
  | .hbm, ⟨37, _⟩ => ⟨S_, .i32⟩
  | .hbm, ⟨38, _⟩ => ⟨S2x4x1024x32, .f32⟩
  | .hbm, ⟨39, _⟩ => ⟨S2048x2x4x1024, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x2x4x1024, .f32⟩
  | .hbm, ⟨46, _⟩ => ⟨S2x4x1024, .f32⟩
  | .hbm, ⟨47, _⟩ => ⟨S_, .i32⟩
  | .hbm, ⟨48, _⟩ => ⟨S_, .i32⟩
  | .hbm, ⟨49, _⟩ => ⟨S1x4x32, .f32⟩
  | .hbm, ⟨50, _⟩ => ⟨S4x32, .f32⟩
  | .hbm, ⟨51, _⟩ => ⟨S_, .i32⟩
  | .hbm, ⟨52, _⟩ => ⟨S_, .i32⟩
  | .hbm, ⟨53, _⟩ => ⟨S1x4x32, .f32⟩
  | .hbm, ⟨54, _⟩ => ⟨S4x32, .f32⟩
  | .hbm, ⟨55, _⟩ => ⟨S1x1x1024x32, .f32⟩
  | .hbm, ⟨56, _⟩ => ⟨S2x4x1024x32, .f32⟩
  | .hbm, ⟨57, _⟩ => ⟨S2x4x1024x32, .f32⟩
  | .hbm, ⟨58, _⟩ => ⟨S2x4x1024x1, .f32⟩
  | .hbm, ⟨59, _⟩ => ⟨S4x1x32, .f32⟩
  | .hbm, ⟨60, _⟩ => ⟨S1x4x1x32, .f32⟩
  | .hbm, ⟨61, _⟩ => ⟨S2x4x1024x32, .f32⟩
  | .hbm, ⟨62, _⟩ => ⟨S2x4x1024x32, .f32⟩
  | .hbm, ⟨63, _⟩ => ⟨S2x4x1024x32, .f32⟩
  | .hbm, ⟨64, _⟩ => ⟨S2x4x1024x32, .f32⟩
  | .hbm, ⟨65, _⟩ => ⟨S4x1x32, .f32⟩
  | .hbm, ⟨66, _⟩ => ⟨S1x4x1x32, .f32⟩
  | .hbm, ⟨67, _⟩ => ⟨S2x4x1024x32, .f32⟩
  | .hbm, ⟨68, _⟩ => ⟨S2x4x1024x32, .f32⟩
  | .hbm, ⟨69, _⟩ => ⟨S_, .f32⟩
  | .hbm, ⟨70, _⟩ => ⟨S2x4x1024, .f32⟩
  | .hbm, ⟨71, _⟩ => ⟨S1x2x4x1024, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S2048x2x4x1024, .f32⟩
  | .hbm, ⟨76, _⟩ => ⟨S_, .i32⟩
  | .hbm, ⟨77, _⟩ => ⟨S_, .i32⟩
  | .hbm, ⟨78, _⟩ => ⟨S2x4x2048x1024, .f32⟩
  | .hbm, ⟨79, _⟩ => ⟨S1x4x1152x1024, .f32⟩
  | .hbm, ⟨80, _⟩ => ⟨S4x1152x1024, .f32⟩
  | .hbm, ⟨81, _⟩ => ⟨S1x4x896x1024, .f32⟩
  | .hbm, ⟨82, _⟩ => ⟨S4x896x1024, .f32⟩
  | .hbm, ⟨83, _⟩ => ⟨S4x2048x1024, .f32⟩
  | .hbm, ⟨84, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_c_2 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v21_5 : Ref sig .tc := ⟨.hbm, 38, rfl⟩
abbrev main_v21_6 : Ref sig .tc := ⟨.hbm, 39, rfl⟩
abbrev main_while0c_c_9 : Ref sig .tc := ⟨.hbm, 40, rfl⟩
abbrev main_while0c_v29 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v29 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_v0 : Ref sig .tc := ⟨.hbm, 49, rfl⟩
abbrev main_while0b_v30 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_v0 : Ref sig .tc := ⟨.hbm, 53, rfl⟩
abbrev main_while0b_v31 : Ref sig .tc := ⟨.hbm, 54, rfl⟩
abbrev main_while0b_v32 : Ref sig .tc := ⟨.hbm, 55, rfl⟩
abbrev main_while0b_v33 : Ref sig .tc := ⟨.hbm, 56, rfl⟩
abbrev main_while0b_v34 : Ref sig .tc := ⟨.hbm, 57, rfl⟩
abbrev main_while0b_v35 : Ref sig .tc := ⟨.hbm, 58, rfl⟩
abbrev main_while0b_v36 : Ref sig .tc := ⟨.hbm, 59, rfl⟩
abbrev main_while0b_v37 : Ref sig .tc := ⟨.hbm, 60, rfl⟩
abbrev main_while0b_v38 : Ref sig .tc := ⟨.hbm, 61, rfl⟩
abbrev main_while0b_v39 : Ref sig .tc := ⟨.hbm, 62, rfl⟩
abbrev main_while0b_v40 : Ref sig .tc := ⟨.hbm, 63, rfl⟩
abbrev main_while0b_v41 : Ref sig .tc := ⟨.hbm, 64, rfl⟩
abbrev main_while0b_v42 : Ref sig .tc := ⟨.hbm, 65, rfl⟩
abbrev main_while0b_v43 : Ref sig .tc := ⟨.hbm, 66, rfl⟩
abbrev main_while0b_v44 : Ref sig .tc := ⟨.hbm, 67, rfl⟩
abbrev main_while0b_v45 : Ref sig .tc := ⟨.hbm, 68, rfl⟩
abbrev main_while0b_cst_9 : Ref sig .tc := ⟨.hbm, 69, rfl⟩
abbrev main_while0b_v46 : Ref sig .tc := ⟨.hbm, 70, rfl⟩
abbrev main_while0b_call4_v0 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_c_1 : Ref sig .tc := ⟨.hbm, 74, rfl⟩
abbrev main_while0b_v47 : Ref sig .tc := ⟨.hbm, 75, rfl⟩
abbrev main_while0b_c_10 : Ref sig .tc := ⟨.hbm, 76, rfl⟩
abbrev main_while0b_v48 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩

abbrev nD : Nat := 1
abbrev τ : Topo := Topo.v7x

variable {F : FTy → Type} [FloatOps F]

abbrev main_while0_count : Scf.Loop 32 := ⟨0#32, 2048#32, 1#32⟩
-- ==== Proof.Body.lean ====
module

public import proofs.«01_k».proof.Proof.Gen.KernelIdeal.Skeleton

@[expose] public section

noncomputable section

namespace Cert.KernelIdeal.Scan

open Idealize.ShloMosaic Idealize.SL.Sem Cert.KernelIdeal.Gen

variable {F : FTy → Type} [FloatOps F]

/-- Row `k` of a block of 32 rows of inputs, spread over the state's 32 entries. -/
def xRow (xs : FVec F S32x4x512 .bf16) (k : ℕ) (hk : S32x4x512.Slices ![k, 0, 0] S1x4x512) : FVec F S4x32x512 .bf16 :=
  broadcastTo S4x32x512 (shapeCast S4x1x512 (shapeCast S4x512 (extractStridedSlice S1x4x512 ![k, 0, 0] xs hk)
    shapeCasts_S1x4x512_S4x512) shapeCasts_S4x512_S4x1x512) broadcasts_S4x1x512_S4x32x512

/-- Row `k` of a block of 32 rows of input weights, spread over the columns. -/
def bRow (bs : FVec F S32x4x32x1 .bf16) (k : ℕ) (hk : S32x4x32x1.Slices ![k, 0, 0, 0] S1x4x32x1) : FVec F S4x32x512 .bf16 :=
  broadcastTo S4x32x512 (shapeCast S4x32x1 (extractStridedSlice S1x4x32x1 ![k, 0, 0, 0] bs hk)
    shapeCasts_S1x4x32x1_S4x32x1) broadcasts_S4x32x1_S4x32x512

theorem xFits {k : ℕ} (hk : k < 32) : S32x4x512.Slices ![k, 0, 0] S1x4x512 := by
  revert k; decide
theorem bFits {k : ℕ} (hk : k < 32) : S32x4x32x1.Slices ![k, 0, 0, 0] S1x4x32x1 := by
  revert k; decide
theorem cFits {k : ℕ} (hk : k < 32) : S32x4x32.Slices ![k, 0, 0] S1x4x32 := by
  revert k; decide

/-- The state after one more position: decayed, plus the position's input times its weights. -/
def stepV (da : FVec F S1x32x512 .bf16) (xs : FVec F S32x4x512 .bf16) (bs : FVec F S32x4x32x1 .bf16) (k : ℕ) (hk : k < 32)
    (h : FVec F S4x32x512 .bf16) : FVec F S4x32x512 .bf16 :=
  addf (mulf h (broadcastTo S4x32x512 da broadcasts_S1x32x512_S4x32x512)) (mulf (xRow xs k (xFits hk)) (bRow bs k (bFits hk)))

/-- The row of results read off a state. -/
def rowV (cs : FVec F S32x4x32 .bf16) (k : ℕ) (hk : k < 32) (h : FVec F S4x32x512 .bf16) : FVec F S1x4x512 .bf16 :=
  shapeCast S1x4x512 (truncf .bf16 (matmul dot_S4x32_S4x32x512_S4x512_1_1_n_2_0_0 none
    (shapeCast S4x32 (extractStridedSlice S1x4x32 ![k, 0, 0] cs (cFits hk)) shapeCasts_S1x4x32_S4x32) h
    (constant S4x512 .f32 0x00000000#32)) bitsLt_bf16_f32) shapeCasts_S4x512_S1x4x512

/-- Where a trip's rows of results lie in the array of results. -/
structure RowOffs where
  off : BitVec 32 → Fin 3 → Nat
  inb : ∀ (r : Fin 32), ∀ a, (off (BitVec.ofNat 32 r.val)) a + S1x4x512.size a ≤ S1024x4x1024.size a
  packed : ∀ (r : Fin 32), (Rect.unit (s := S1024x4x1024) (off (BitVec.ofNat 32 r.val)) S1x4x512.size (inb r)).PackedRows (EltTy.packing .bf16)

/-- The buffers and semaphores the kernel's body is called with. -/
structure Args where
  arg0 : Memref sig .tc .vmem S1024x4x512 .bf16
  harg0 : arg0.IsWhole
  arg1 : Memref sig .tc .vmem S32x512 .bf16
  harg1 : arg1.IsWhole
  arg2 : Memref sig .tc .vmem S4x32x512 .bf16
  harg2 : arg2.IsWhole
  arg3 : Memref sig .tc .vmem S1024x4x32 .bf16
  harg3 : arg3.IsWhole
  arg4 : Memref sig .tc .vmem S1024x4x32 .bf16
  harg4 : arg4.IsWhole
  arg5 : Memref sig .tc .vmem S1024x4x1024 .bf16
  harg5 : arg5.IsWhole
  arg6 : Memref sig .tc .vmem S4x32x512 .bf16
  harg6 : arg6.IsWhole
  arg7 : Memref sig .tc .vmem S4x32x512 .bf16
  harg7 : arg7.IsWhole
  arg8 : DmaSems sig S_
  arg9 : DmaSems sig S_
  arg10 : DmaSems sig S8
  arg11 : DmaSems sig S8

variable (a : Args)

/-- Positions `k, k+1, …` of a trip, `n` of them: update the state, read the row of results off it,
    store the row. -/
def steps (o : RowOffs) (da : FVec F S1x32x512 .bf16) (xs : FVec F S32x4x512 .bf16) (bs : FVec F S32x4x32x1 .bf16)
    (cs : FVec F S32x4x32 .bf16) : (n k : ℕ) → (k + n ≤ 32) → FVec F S4x32x512 .bf16 →
    Prog (TpuEff nD τ sig (Elt F) Λ₀ .tc) (FVec F S4x32x512 .bf16)
  | 0, _, _, h => pure h
  | n + 1, k, hk, h => do
    let _v : Vec F S1x4x512 .bf16 ← Prog.lift (.load a.arg5 (Rect.unit (s := S1024x4x1024) (o.off (BitVec.ofNat 32 k)) S1x4x512.size (o.inb ⟨k, by omega⟩)).toLoadRect (View.loadsAt_vmem h_S1x4x512))
    Prog.lift (.store a.arg5 (Rect.unit (s := S1024x4x1024) (o.off (BitVec.ofNat 32 k)) S1x4x512.size (o.inb ⟨k, by omega⟩)) (rowV cs k (by omega) (stepV da xs bs k (by omega) h)) Finset.univ (View.stores_vmem h_S1x4x512 (a.harg5.storeExact_slice rfl _ (o.packed ⟨k, by omega⟩)) (fun _ => rfl)) (.inl rfl))
    steps o da xs bs cs n (k + 1) (by omega) (stepV da xs bs k (by omega) h)

/-- One trip: load 32 rows of the inputs and the weights, then go through the 32 positions. -/
def trip (offX : Fin 3 → ℕ) (hX : ∀ i, offX i + S32x4x512.size i ≤ S1024x4x512.size i)
    (offB : Fin 3 → ℕ) (hB : ∀ i, offB i + S32x4x32.size i ≤ S1024x4x32.size i)
    (o : RowOffs) (da : FVec F S1x32x512 .bf16) (h : FVec F S4x32x512 .bf16) :
    Prog (TpuEff nD τ sig (Elt F) Λ₀ .tc) (FVec F S4x32x512 .bf16) := do
  let xs : Vec F S32x4x512 .bf16 ← Prog.lift (.load a.arg0 (Rect.unit (s := S1024x4x512) offX S32x4x512.size hX).toLoadRect (View.loadsAt_vmem h_S32x4x512))
  let bs : Vec F S32x4x32 .bf16 ← Prog.lift (.load a.arg3 (Rect.unit (s := S1024x4x32) offB S32x4x32.size hB).toLoadRect (View.loadsAt_vmem h_S32x4x32))
  let cs : Vec F S32x4x32 .bf16 ← Prog.lift (.load a.arg4 (Rect.unit (s := S1024x4x32) offB S32x4x32.size hB).toLoadRect (View.loadsAt_vmem h_S32x4x32))
  steps a o da (k0_pay1 xs) (k0_pay2 bs) (k0_pay3 cs) 32 0 (by omega) h

/-- A chunk of 128 positions as the kernel prints it: its counted loop and the places its trips read and write. -/
structure ChunkOffs (d0 : Dev nD) where
  loop : Scf.Loop 32
  ok : loop.OK
  offX : Fin loop.trips → Fin 3 → ℕ
  hX : ∀ t i, offX t i + S32x4x512.size i ≤ S1024x4x512.size i
  offB : Fin loop.trips → Fin 3 → ℕ
  hB : ∀ t i, offB t i + S32x4x32.size i ≤ S1024x4x32.size i
  rows : Fin loop.trips → RowOffs
  slab : Fin 3 → ℕ
  hSlab : ∀ i, slab i + S128x4x512.size i ≤ S1024x4x1024.size i
  words : (Rect.unit (s := S1024x4x1024) slab S128x4x512.size hSlab).WholeWords (EltTy.packing .bf16)

/-- The eight chunks. -/
def chunk (d0 : Dev nD) : Fin 8 → ChunkOffs d0
  | 0 => ⟨k0_t1_loop, k0_t1_ok, k0_off1, k0_off1_inb, k0_off2, k0_off2_inb, fun t => ⟨k0_off3 d0 t, k0_off3_inb d0 t, k0_off3_packedbf16 d0 t⟩, k0_off36 d0, k0_off36_inb d0, k0_off36_wordsbf16 d0⟩
  | 1 => ⟨k0_t2_loop, k0_t2_ok, k0_off5, k0_off5_inb, k0_off6, k0_off6_inb, fun t => ⟨k0_off7 d0 t, k0_off7_inb d0 t, k0_off7_packedbf16 d0 t⟩, k0_off8 d0, k0_off8_inb d0, k0_off8_wordsbf16 d0⟩
  | 2 => ⟨k0_t3_loop, k0_t3_ok, k0_off9, k0_off9_inb, k0_off10, k0_off10_inb, fun t => ⟨k0_off11 d0 t, k0_off11_inb d0 t, k0_off11_packedbf16 d0 t⟩, k0_off12 d0, k0_off12_inb d0, k0_off12_wordsbf16 d0⟩
  | 3 => ⟨k0_t4_loop, k0_t4_ok, k0_off13, k0_off13_inb, k0_off14, k0_off14_inb, fun t => ⟨k0_off15 d0 t, k0_off15_inb d0 t, k0_off15_packedbf16 d0 t⟩, k0_off16 d0, k0_off16_inb d0, k0_off16_wordsbf16 d0⟩
  | 4 => ⟨k0_t5_loop, k0_t5_ok, k0_off17, k0_off17_inb, k0_off18, k0_off18_inb, fun t => ⟨k0_off19 d0 t, k0_off19_inb d0 t, k0_off19_packedbf16 d0 t⟩, k0_off20 d0, k0_off20_inb d0, k0_off20_wordsbf16 d0⟩
  | 5 => ⟨k0_t6_loop, k0_t6_ok, k0_off21, k0_off21_inb, k0_off22, k0_off22_inb, fun t => ⟨k0_off23 d0 t, k0_off23_inb d0 t, k0_off23_packedbf16 d0 t⟩, k0_off24 d0, k0_off24_inb d0, k0_off24_wordsbf16 d0⟩
  | 6 => ⟨k0_t7_loop, k0_t7_ok, k0_off25, k0_off25_inb, k0_off26, k0_off26_inb, fun t => ⟨k0_off27 d0 t, k0_off27_inb d0 t, k0_off27_packedbf16 d0 t⟩, k0_off28 d0, k0_off28_inb d0, k0_off28_wordsbf16 d0⟩
  | 7 => ⟨k0_t8_loop, k0_t8_ok, k0_off29, k0_off29_inb, k0_off30, k0_off30_inb, fun t => ⟨k0_off31 d0 t, k0_off31_inb d0 t, k0_off31_packedbf16 d0 t⟩, k0_off32 d0, k0_off32_inb d0, k0_off32_wordsbf16 d0⟩

/-- The loop over a chunk. -/
def chunkLoop (d0 : Dev nD) (k : Fin 8) (da : FVec F S1x32x512 .bf16) (h : FVec F S4x32x512 .bf16) :
    Prog (TpuEff nD τ sig (Elt F) Λ₀ .tc) (FVec F S4x32x512 .bf16) :=
  Scf.Loop.for (chunk d0 k).loop (chunk d0 k).ok h fun t h =>
    trip a ((chunk d0 k).offX t) ((chunk d0 k).hX t) ((chunk d0 k).offB t) ((chunk d0 k).hB t) ((chunk d0 k).rows t) da h

theorem sems_inb (k : Fin 8) : ∀ i, (![k.val] : Fin 1 → ℕ) i + S1.size i ≤ S8.size i := by revert k; decide

/-- The semaphore of chunk `k` in an array of eight. -/
def sem8 (s : DmaSems sig S8) (k : Fin 8) : DmaSem sig :=
  ((s.slice (Rect.unit (s := S8) ![k.val] S1.size (sems_inb k))).squeeze S_ squeezes_S1_S_).sem

/-- The slab of results of chunk `k`: 128 rows, one half of the columns. -/
def slabM (d0 : Dev nD) (k : Fin 8) : Memref sig .tc .vmem S128x4x512 .bf16 :=
  a.arg5.slice (Rect.unit (s := S1024x4x1024) (chunk d0 k).slab S128x4x512.size (chunk d0 k).hSlab) (fun _ => rfl)

/-- The device on the other side of the second mesh axis. -/
def yDev (d0 : Dev nD) : Dev nD := ⟨k0_dev4 d0, k0_dev4_lt d0⟩
/-- The device on the other side of the first mesh axis. -/
def xDev (d0 : Dev nD) : Dev nD := ⟨k0_dev1 d0, k0_dev1_lt d0⟩

/-- Send slab `k` to the other device along the second axis. -/
def sendSlab (d0 : Dev nD) (k : Fin 8) : Prog (TpuEff nD τ sig (Elt F) Λ₀ .tc) PUnit :=
  Prog.lift (.enqueueDma (slabM a d0 k) (.remote (Dev.tc (yDev d0)) (slabM a d0 k) (.dma (sem8 a.arg10 k))) (.dma (sem8 a.arg11 k))
    (a.harg5.wordExact_slice rfl _ (chunk d0 k).words) (a.harg5.wordExact_slice rfl _ (chunk d0 k).words) ⟨⟨rfl, Or.inl rfl⟩, trivial⟩)

/-- Send chunk `k`, go through chunk `k + 1`, send it, and so on, `n` times. -/
def sendsFrom (d0 : Dev nD) (da : FVec F S1x32x512 .bf16) : (n k : ℕ) → (k + n < 8) → FVec F S4x32x512 .bf16 →
    Prog (TpuEff nD τ sig (Elt F) Λ₀ .tc) (FVec F S4x32x512 .bf16)
  | 0, _, _, h => pure h
  | n + 1, k, hk, h => do
    sendSlab a d0 ⟨k, by omega⟩
    let h' : FVec F S4x32x512 .bf16 ← chunkLoop a d0 ⟨k + 1, by omega⟩ da h
    sendsFrom d0 da n (k + 1) (by omega) h'

/-! ## The correction -/

/-- The four carried states after one more decay. -/
def decayV (da : FVec F S1x32x512 .bf16) (hc : FVec F S4x4x32x512 .bf16) : FVec F S4x4x32x512 .bf16 :=
  mulf hc (broadcastTo S4x4x32x512 (shapeCast S1x1x32x512 da shapeCasts_S1x32x512_S1x1x32x512) broadcasts_S1x1x32x512_S4x4x32x512)

theorem gFits {g : ℕ} (hg : g < 4) : S4x4x32x512.Slices ![g, 0, 0, 0] S1x4x32x512 := by
  revert g; decide

/-- A row of results corrected by what carried state `g` adds to it. -/
def corrRow (y : FVec F S1x4x512 .bf16) (c : FVec F S1x4x32 .bf16) (hc : FVec F S4x4x32x512 .bf16) (g : ℕ) (hg : g < 4) : FVec F S1x4x512 .bf16 :=
  shapeCast S1x4x512 (truncf .bf16 (addf (extf .f32 (shapeCast S4x512 y shapeCasts_S1x4x512_S4x512) bitsLt_bf16_f32)
    (matmul dot_S4x32_S4x32x512_S4x512_1_1_n_2_0_0 none (shapeCast S4x32 c shapeCasts_S1x4x32_S4x32)
      (shapeCast S4x32x512 (extractStridedSlice S1x4x32x512 ![g, 0, 0, 0] hc (gFits hg)) shapeCasts_S1x4x32x512_S4x32x512)
      (constant S4x512 .f32 0x00000000#32))) bitsLt_bf16_f32) shapeCasts_S4x512_S1x4x512

/-- Correct the rows of position `j` of a trip in the groups `g, g+1, …`, `n` of them. -/
def corrGroups (d0 : Dev nD) (h3 : k0_cond3 d0 = 1#1) (t : Fin k0_t9_loop.trips) (j : ℕ) (hj : j < 8) (hc : FVec F S4x4x32x512 .bf16) :
    (n g : ℕ) → (g + n ≤ 4) → Prog (TpuEff nD τ sig (Elt F) Λ₀ .tc) PUnit
  | 0, _, _ => pure ⟨⟩
  | n + 1, g, hg => do
    let y : Vec F S1x4x512 .bf16 ← Prog.lift (.load a.arg5 (Rect.unit (s := S1024x4x1024) (k0_off33 d0 t (BitVec.ofNat 32 (32 * g)) (BitVec.ofNat 32 j)) S1x4x512.size (k0_off33_inb d0 t h3 ⟨g, by omega⟩ ⟨j, hj⟩)).toLoadRect (View.loadsAt_vmem h_S1x4x512))
    let c : Vec F S1x4x32 .bf16 ← Prog.lift (.load a.arg4 (Rect.unit (s := S1024x4x32) (k0_off34 t (BitVec.ofNat 32 (32 * g)) (BitVec.ofNat 32 j)) S1x4x32.size (k0_off34_inb d0 t h3 ⟨g, by omega⟩ ⟨j, hj⟩)).toLoadRect (View.loadsAt_vmem h_S1x4x32))
    let _y : Vec F S1x4x512 .bf16 ← Prog.lift (.load a.arg5 (Rect.unit (s := S1024x4x1024) (k0_off33 d0 t (BitVec.ofNat 32 (32 * g)) (BitVec.ofNat 32 j)) S1x4x512.size (k0_off33_inb d0 t h3 ⟨g, by omega⟩ ⟨j, hj⟩)).toLoadRect (View.loadsAt_vmem h_S1x4x512))
    Prog.lift (.store a.arg5 (Rect.unit (s := S1024x4x1024) (k0_off33 d0 t (BitVec.ofNat 32 (32 * g)) (BitVec.ofNat 32 j)) S1x4x512.size (k0_off33_inb d0 t h3 ⟨g, by omega⟩ ⟨j, hj⟩)) (corrRow y c hc g (by omega)) Finset.univ (View.stores_vmem h_S1x4x512 (a.harg5.storeExact_slice rfl _ (k0_off33_packedbf16 d0 t h3 ⟨g, by omega⟩ ⟨j, hj⟩)) (fun _ => rfl)) (.inl rfl))
    corrGroups d0 h3 t j hj hc n (g + 1) (by omega)

/-- Positions `j, j+1, …` of a trip of the correction, `n` of them. -/
def corrSteps (d0 : Dev nD) (h3 : k0_cond3 d0 = 1#1) (da : FVec F S1x32x512 .bf16) (t : Fin k0_t9_loop.trips) :
    (n j : ℕ) → (j + n ≤ 8) → FVec F S4x4x32x512 .bf16 → Prog (TpuEff nD τ sig (Elt F) Λ₀ .tc) (FVec F S4x4x32x512 .bf16)
  | 0, _, _, hc => pure hc
  | n + 1, j, hj, hc => do
    corrGroups a d0 h3 t j (by omega) (decayV da hc) 4 0 (by omega)
    corrSteps d0 h3 da t n (j + 1) (by omega) (decayV da hc)

/-! ## The body -/

/-- On a device of the first half of the sequence: send the final state to the second half's device. -/
def sendState (d0 : Dev nD) (h2 : k0_cond2 d0 = 1#1) : Prog (TpuEff nD τ sig (Elt F) Λ₀ .tc) PUnit := do
  Prog.lift (.enqueueDma a.arg6 (.remote (Dev.tc (⟨k0_dev11 d0, k0_dev11_lt d0 h2⟩ : Dev nD)) a.arg7 (.dma a.arg8.sem)) (.dma a.arg9.sem) a.harg6.wordExact a.harg7.wordExact ⟨⟨rfl, Or.inl rfl⟩, trivial⟩)
  Prog.lift (.waitDma2 a.arg8.sem a.arg7 a.arg6 a.harg7.wordExact a.harg6.wordExact)

/-- On a device of the second half: take the state in, correct the first 128 rows, send them. -/
def correct (d0 : Dev nD) (da : FVec F S1x32x512 .bf16) (h3 : k0_cond3 d0 = 1#1) : Prog (TpuEff nD τ sig (Elt F) Λ₀ .tc) PUnit := do
  Prog.lift (.waitDma2 a.arg9.sem a.arg6 a.arg7 a.harg6.wordExact a.harg7.wordExact)
  let s : Vec F S4x32x512 .bf16 ← Prog.lift (.load a.arg7 (Rect.unit (s := S4x32x512) ![0, 0, 0] S4x32x512.size inb_S4x32x512_S4x32x512_0_0_0).toLoadRect (View.loadsAt_vmem h_S4x32x512))
  let p : Vec F S4x32x512 .bf16 ← Prog.lift (.load a.arg2 (Rect.unit (s := S4x32x512) ![0, 0, 0] S4x32x512.size inb_S4x32x512_S4x32x512_0_0_0).toLoadRect (View.loadsAt_vmem h_S4x32x512))
  let _hc : FVec F S4x4x32x512 .bf16 ← Scf.Loop.for k0_t9_loop (k0_t9_ok d0 h3) (k0_pay700 s p) fun t hc => corrSteps a d0 h3 da t 8 0 (by omega) hc
  sendSlab a d0 0

/-- The first chunks; on a device of the first half of the sequence the first is sent at once. -/
def opening (d0 : Dev nD) (da : FVec F S1x32x512 .bf16) : Prog (TpuEff nD τ sig (Elt F) Λ₀ .tc) (FVec F S4x32x512 .bf16) := do
  let h : FVec F S4x32x512 .bf16 ← chunkLoop a d0 0 da (k0_pay674 (F := F))
  if _h1 : k0_cond1 d0 = 1#1 then do
    sendSlab a d0 0
  else do
    pure ⟨⟩
  let h : FVec F S4x32x512 .bf16 ← chunkLoop a d0 1 da h
  sendsFrom a d0 da 1 1 (by omega) h

/-- Wait for the slab `k` sent. -/
def waitSent (d0 : Dev nD) (k : Fin 8) : Prog (TpuEff nD τ sig (Elt F) Λ₀ .tc) PUnit :=
  Prog.lift (.waitDma2 (sem8 a.arg10 k) (slabM a d0 k) (slabM a d0 k)
    (a.harg5.wordExact_slice rfl _ (chunk d0 k).words) (a.harg5.wordExact_slice rfl _ (chunk d0 k).words))

/-- Wait for the slab `k` of the other half received. -/
def waitRecv (d0 : Dev nD) (k : Fin 8) : Prog (TpuEff nD τ sig (Elt F) Λ₀ .tc) PUnit :=
  Prog.lift (.waitDma2 (sem8 a.arg11 k) (slabM a d0 k) (slabM a d0 k)
    (a.harg5.wordExact_slice rfl _ (chunk d0 k).words) (a.harg5.wordExact_slice rfl _ (chunk d0 k).words))

/-- The last send, the final state stored and passed on, the correction, the first wait. -/
def closing {β : Type} (r : β) (d0 : Dev nD) (da : FVec F S1x32x512 .bf16) (h : FVec F S4x32x512 .bf16) : Prog (TpuEff nD τ sig (Elt F) Λ₀ .tc) β := do
  sendSlab a d0 7
  let _v : Vec F S4x32x512 .bf16 ← Prog.lift (.load a.arg6 (Rect.unit (s := S4x32x512) ![0, 0, 0] S4x32x512.size inb_S4x32x512_S4x32x512_0_0_0).toLoadRect (View.loadsAt_vmem h_S4x32x512))
  Prog.lift (.store a.arg6 (Rect.unit (s := S4x32x512) ![0, 0, 0] S4x32x512.size inb_S4x32x512_S4x32x512_0_0_0) (k0_pay699 h) Finset.univ (View.stores_vmem h_S4x32x512 (a.harg6.storeExact_slice rfl _ packedbf16_S4x32x512_S4x32x512_0_0_0) (fun _ => rfl)) (.inl rfl))
  if h2 : k0_cond2 d0 = 1#1 then do
    sendState a d0 h2
  else do
    pure ⟨⟩
  if h3 : k0_cond3 d0 = 1#1 then do
    correct a d0 da h3
  else do
    pure ⟨⟩
  waitSent a d0 0
  pure r

/-- The waits for the slabs `k, k+1, …`, `n` of them: sent, then received. -/
def waitsFrom (d0 : Dev nD) : (n k : ℕ) → (k + n ≤ 8) → Prog (TpuEff nD τ sig (Elt F) Λ₀ .tc) PUnit
  | 0, _, _ => pure ⟨⟩
  | n + 1, k, hk => do
    waitSent a d0 ⟨k, by omega⟩
    waitRecv a d0 ⟨k, by omega⟩
    waitsFrom d0 n (k + 1) (by omega)

/-- What follows the handshake. -/
def work (d0 : Dev nD) : Prog (TpuEff nD τ sig (Elt F) Λ₀ .tc) PUnit := do
  let v : Vec F S32x512 .bf16 ← Prog.lift (.load a.arg1 (Rect.unit (s := S32x512) ![0, 0] S32x512.size inb_S32x512_S32x512_0_0).toLoadRect (View.loadsAt_vmem h_S32x512))
  let h : FVec F S4x32x512 .bf16 ← opening a d0 (k0_pay673 v)
  let h : FVec F S4x32x512 .bf16 ← sendsFrom a d0 (k0_pay673 v) 2 2 (by omega) h
  let h : FVec F S4x32x512 .bf16 ← sendsFrom a d0 (k0_pay673 v) 3 4 (by omega) h
  let _u : PUnit ← closing a ⟨⟩ d0 (k0_pay673 v) h
  waitRecv a d0 0
  waitsFrom a d0 7 1 (by omega)

/-- The kernel's body: greet both neighbours, wait for both greetings, work. -/
def body : Prog (TpuEff nD τ sig (Elt F) Λ₀ .tc) PUnit := do
  let d0 : Dev nD ← Prog.lift .deviceId
  semSignalWord (xDev d0) (SemArray.scalar (sig.barrier 0 rfl) : Sems sig S_).sem 1#32
  semSignalWord (yDev d0) (SemArray.scalar (sig.barrier 0 rfl) : Sems sig S_).sem 1#32
  semWaitWord (SemArray.scalar (sig.barrier 0 rfl) : Sems sig S_).sem 2#32
  work a d0

end Cert.KernelIdeal.Scan
-- ==== Proof.Offsets.lean ====
module

public import proofs.«01_k».proof.Proof.Body

@[expose] public section

namespace Cert.KernelIdeal.Scan

open Idealize.ShloMosaic Cert.KernelIdeal.Gen

/-! The places the kernel reads and writes, as it computes them in 32-bit words, in closed form. Device `c` stands at
    `(c / 2, c % 2)` of the mesh. -/

theorem trips_eq : ∀ (c : Dev nD) (k : Fin 8), (chunk c k).loop.trips = 4 := by decide +kernel

theorem offX_eq : ∀ (c : Dev nD) (k : Fin 8) (t : Fin (chunk c k).loop.trips),
    (chunk c k).offX t = ![32 * (4 * k.val + t.val), 0, 0] := by decide +kernel

theorem offB_eq : ∀ (c : Dev nD) (k : Fin 8) (t : Fin (chunk c k).loop.trips),
    (chunk c k).offB t = ![32 * (4 * k.val + t.val), 0, 0] := by decide +kernel

theorem rows_eq : ∀ (c : Dev nD) (k : Fin 8) (t : Fin (chunk c k).loop.trips) (j : Fin 32),
    ((chunk c k).rows t).off (BitVec.ofNat 32 j.val) = ![32 * (4 * k.val + t.val) + j.val, 0, 512 * (c.val % 2)] := by
  decide +kernel

theorem slab_eq : ∀ (c : Dev nD) (k : Fin 8), (chunk c k).slab = ![128 * k.val, 0, 512 * (c.val % 2)] := by decide +kernel

theorem corr_trips : k0_t9_loop.trips = 4 := by decide +kernel

theorem corrY_eq : ∀ (c : Dev nD) (t : Fin k0_t9_loop.trips) (g : Fin 4) (j : Fin 8),
    k0_off33 c t (BitVec.ofNat 32 (32 * g.val)) (BitVec.ofNat 32 j.val) = ![32 * g.val + (8 * t.val + j.val), 0, 512 * (c.val % 2)] := by
  decide +kernel

theorem corrC_eq : ∀ (t : Fin k0_t9_loop.trips) (g : Fin 4) (j : Fin 8),
    k0_off34 t (BitVec.ofNat 32 (32 * g.val)) (BitVec.ofNat 32 j.val) = ![32 * g.val + (8 * t.val + j.val), 0, 0] := by
  decide +kernel

theorem cond1_iff : ∀ c : Dev nD, k0_cond1 c = 1#1 ↔ c.val < 2 := by decide +kernel
theorem cond2_iff : ∀ c : Dev nD, k0_cond2 c = 1#1 ↔ c.val < 2 := by decide +kernel
theorem cond3_iff : ∀ c : Dev nD, k0_cond3 c = 1#1 ↔ ¬ c.val < 2 := by decide +kernel

/-- The device across the first axis, across the second. -/
theorem xDev_val : ∀ c : Dev nD, (xDev c).val = (c.val + 2) % 4 := by decide +kernel
theorem yDev_val : ∀ c : Dev nD, (yDev c).val = 2 * (c.val / 2) + (c.val + 1) % 2 := by decide +kernel
theorem xDev_xDev : ∀ c : Dev nD, xDev (xDev c) = c := by decide +kernel
theorem yDev_yDev : ∀ c : Dev nD, yDev (yDev c) = c := by decide +kernel
theorem dev11_eq : ∀ (c : Dev nD) (h : k0_cond2 c = 1#1), (⟨k0_dev11 c, k0_dev11_lt c h⟩ : Dev nD) = xDev c := by decide +kernel

end Cert.KernelIdeal.Scan
-- ==== Proof.Values.lean ====
module

public import proofs.«01_k».proof.Proof.Offsets
public import proofs.«01_k».proof.Proof.Gen.KernelIdeal.Launch
public import Idealize.ShloMosaic.Lib.Pipeline.ValueKit.Geometry

@[expose] public section

noncomputable section

namespace Cert.KernelIdeal.Scan

open Idealize.ShloMosaic Idealize.SL.Sem Cert.KernelIdeal.Gen

variable {F : FTy → Type} [FloatOps F]

/-! ## The buffers -/

abbrev xM : Memref sig .tc .vmem S1024x4x512 .bf16 := Memref.whole cc0_stg0_0
abbrev dM : Memref sig .tc .vmem S32x512 .bf16 := Memref.whole cc0_stg1_0
abbrev pM : Memref sig .tc .vmem S4x32x512 .bf16 := Memref.whole cc0_stg2_0
abbrev bM : Memref sig .tc .vmem S1024x4x32 .bf16 := Memref.whole cc0_stg3_0
abbrev cM : Memref sig .tc .vmem S1024x4x32 .bf16 := Memref.whole cc0_stg4_0
abbrev yM : Memref sig .tc .vmem S1024x4x1024 .bf16 := Memref.whole cc0_stg5_0
abbrev hM : Memref sig .tc .vmem S4x32x512 .bf16 := Memref.whole cc0_scratch0
abbrev gM : Memref sig .tc .vmem S4x32x512 .bf16 := Memref.whole cc0_scratch1

/-- What the pipeline calls the body with. -/
abbrev kArgs : Args where
  arg0 := xM
  harg0 := Memref.isWhole_whole _
  arg1 := dM
  harg1 := Memref.isWhole_whole _
  arg2 := pM
  harg2 := Memref.isWhole_whole _
  arg3 := bM
  harg3 := Memref.isWhole_whole _
  arg4 := cM
  harg4 := Memref.isWhole_whole _
  arg5 := yM
  harg5 := Memref.isWhole_whole _
  arg6 := hM
  harg6 := Memref.isWhole_whole _
  arg7 := gM
  harg7 := Memref.isWhole_whole _
  arg8 := cc0_scratch2
  arg9 := cc0_scratch3
  arg10 := cc0_scratch4
  arg11 := cc0_scratch5

/-! ## What a device computes -/

/-- The inputs of one device's kernel. -/
structure Ins (F : FTy → Type) where
  x : Vec F S1024x4x512 .bf16
  dA : Vec F S32x512 .bf16
  p : Vec F S4x32x512 .bf16
  b : Vec F S1024x4x32 .bf16
  c : Vec F S1024x4x32 .bf16

variable (I : Ins F)

theorem blkX (q : Fin 32) : ∀ i, (![32 * q.val, 0, 0] : Fin 3 → ℕ) i + S32x4x512.size i ≤ S1024x4x512.size i := by
  revert q; decide
theorem blkB (q : Fin 32) : ∀ i, (![32 * q.val, 0, 0] : Fin 3 → ℕ) i + S32x4x32.size i ≤ S1024x4x32.size i := by
  revert q; decide

/-- The decay of one position. -/
def da : FVec F S1x32x512 .bf16 :=
  k0_pay673 ((dM.access (Rect.unit (s := S32x512) ![0, 0] S32x512.size inb_S32x512_S32x512_0_0)).read (Elt F) I.dA)
/-- The inputs and weights of positions `32 q, …, 32 q + 31`. -/
def xs (q : Fin 32) : FVec F S32x4x512 .bf16 :=
  k0_pay1 ((xM.access (Rect.unit (s := S1024x4x512) ![32 * q.val, 0, 0] S32x4x512.size (blkX q))).read (Elt F) I.x)
def bs (q : Fin 32) : FVec F S32x4x32x1 .bf16 :=
  k0_pay2 ((bM.access (Rect.unit (s := S1024x4x32) ![32 * q.val, 0, 0] S32x4x32.size (blkB q))).read (Elt F) I.b)
def cs (q : Fin 32) : FVec F S32x4x32 .bf16 :=
  k0_pay3 ((cM.access (Rect.unit (s := S1024x4x32) ![32 * q.val, 0, 0] S32x4x32.size (blkB q))).read (Elt F) I.c)

/-- The state after `t` positions. -/
def hAt : ℕ → FVec F S4x32x512 .bf16
  | 0 => k0_pay674 (F := F)
  | t + 1 => if h : t < 1024 then
      stepV (da I) (xs I ⟨t / 32, by omega⟩) (bs I ⟨t / 32, by omega⟩) (t % 32) (Nat.mod_lt _ (by decide)) (hAt t)
    else hAt t

theorem hAt_zero : hAt I 0 = k0_pay674 (F := F) := rfl
theorem hAt_step (q : Fin 32) (k : ℕ) (hk : k < 32) :
    stepV (da I) (xs I q) (bs I q) k hk (hAt I (32 * q.val + k)) = hAt I (32 * q.val + k + 1) := by
  have hq := q.isLt
  have h1 : (32 * q.val + k) / 32 = q.val := by omega
  have h2 : (32 * q.val + k) % 32 = k := by omega
  rw [hAt, dif_pos (by omega)]
  have e : (⟨(32 * q.val + k) / 32, by omega⟩ : Fin 32) = q := Fin.ext h1
  rw [e]; congr 1; exact h2.symm

/-- The results at position `t`, before any correction. -/
def rowAt (t : ℕ) (ht : t < 1024) : FVec F S1x4x512 .bf16 :=
  rowV (cs I ⟨t / 32, by omega⟩) (t % 32) (Nat.mod_lt _ (by decide)) (hAt I (t + 1))

theorem rowAt_eq (q : Fin 32) (k : ℕ) (hk : k < 32) (ht : 32 * q.val + k < 1024) :
    rowAt I (32 * q.val + k) ht = rowV (cs I q) k hk (hAt I (32 * q.val + k + 1)) := by
  have hq := q.isLt
  have h1 : (32 * q.val + k) / 32 = q.val := by omega
  have h2 : (32 * q.val + k) % 32 = k := by omega
  unfold rowAt
  have e : (⟨(32 * q.val + k) / 32, by omega⟩ : Fin 32) = q := Fin.ext h1
  rw [e]; congr 1

/-- Where an element of the array of results lies in its row, within its half of the columns. -/
def inRow (i : S1024x4x1024.Idx) : S1x4x512.Idx := fun a =>
  ⟨(![0, (i 1).val, (i 2).val % 512] : Fin 3 → ℕ) a, by
    have h1 : (i 1).val < 4 := (i 1).isLt
    match a with
    | 0 => exact Nat.one_pos
    | 1 => exact h1
    | 2 => exact Nat.mod_lt _ (by decide)⟩

/-- The array of results a device computes by itself. -/
def own : Vec F S1024x4x1024 .bf16 := fun i => rowAt I (i 0).val (i 0).isLt (inRow i)

/-! ## Rows and slabs of the array of results -/

/-- The elements of slab `k` that device `c` computes. -/
def slab (c : Dev nD) (k : Fin 8) : Finset S1024x4x1024.Idx :=
  (yM.access (Rect.unit (s := S1024x4x1024) (chunk c k).slab S128x4x512.size (chunk c k).hSlab)).set

theorem mem_rect (off size : Fin 3 → ℕ) (inb) (i : S1024x4x1024.Idx) :
    i ∈ (yM.access (Rect.unit (s := S1024x4x1024) off size inb)).set
      ↔ (off 0 ≤ (i 0).val ∧ (i 0).val < off 0 + size 0) ∧ (off 1 ≤ (i 1).val ∧ (i 1).val < off 1 + size 1)
        ∧ (off 2 ≤ (i 2).val ∧ (i 2).val < off 2 + size 2) := by
  refine ValueKit.mem_set_slice_whole_iff cc0_stg5_0 _ i ?_
  rw [Rect.mem_set_unit]
  constructor
  · intro h; exact ⟨h 0, h 1, h 2⟩
  · rintro ⟨h0, h1, h2⟩ a
    match a with
    | 0 => exact h0
    | 1 => exact h1
    | 2 => exact h2

/-- Row `t` of the half device `c` computes. -/
theorem rowFits (c : Dev nD) (t : Fin 1024) :
    ∀ a, (![t.val, 0, 512 * (c.val % 2)] : Fin 3 → ℕ) a + S1x4x512.size a ≤ S1024x4x1024.size a := by
  have h : 512 * (c.val % 2) + 512 ≤ 1024 := by omega
  have ht := t.isLt
  intro a
  match a with
  | 0 => exact ht
  | 1 => exact le_refl 4
  | 2 => exact h
abbrev rowR (c : Dev nD) (t : Fin 1024) : Rect S1024x4x1024 :=
  Rect.unit (s := S1024x4x1024) ![t.val, 0, 512 * (c.val % 2)] S1x4x512.size (rowFits c t)

theorem mem_slab (c : Dev nD) (k : Fin 8) (i : S1024x4x1024.Idx) :
    i ∈ slab c k ↔ (128 * k.val ≤ (i 0).val ∧ (i 0).val < 128 * k.val + 128) ∧
      (512 * (c.val % 2) ≤ (i 2).val ∧ (i 2).val < 512 * (c.val % 2) + 512) := by
  unfold slab
  rw [mem_rect, slab_eq]
  have h1 : (i 1).val < 4 := (i 1).isLt
  constructor
  · rintro ⟨h0, -, h2⟩; exact ⟨h0, h2⟩
  · rintro ⟨h0, h2⟩; exact ⟨h0, ⟨Nat.zero_le _, by show (i 1).val < 0 + 4; omega⟩, h2⟩

theorem mem_row (c : Dev nD) (t : Fin 1024) (i : S1024x4x1024.Idx) :
    i ∈ (yM.access (rowR c t)).set ↔ (i 0).val = t.val ∧
      (512 * (c.val % 2) ≤ (i 2).val ∧ (i 2).val < 512 * (c.val % 2) + 512) := by
  rw [mem_rect]
  have h1 : (i 1).val < 4 := (i 1).isLt
  constructor
  · rintro ⟨h0, -, h2⟩
    have a : t.val ≤ (i 0).val := h0.1
    have b : (i 0).val < t.val + 1 := h0.2
    exact ⟨by omega, h2⟩
  · rintro ⟨h0, h2⟩
    exact ⟨⟨by show t.val ≤ _; omega, by show _ < t.val + 1; omega⟩, ⟨Nat.zero_le _, by show (i 1).val < 0 + 4; omega⟩, h2⟩

theorem row_sub (c : Dev nD) (k : Fin 8) (t : Fin 1024) (h : 128 * k.val ≤ t.val ∧ t.val < 128 * k.val + 128) :
    (yM.access (rowR c t)).set ⊆ slab c k := by
  intro i hi
  rw [mem_row] at hi
  rw [mem_slab]
  exact ⟨by omega, hi.2⟩

/-- A row written: the row's elements are the values', the others are as they were. -/
theorem write_row (c : Dev nD) (t : Fin 1024) (f : S1024x4x1024.Idx → Elt F .bf16) (w : Vec F S1x4x512 .bf16)
    (i : S1024x4x1024.Idx) (hi : 512 * (c.val % 2) ≤ (i 2).val ∧ (i 2).val < 512 * (c.val % 2) + 512) :
    ((yM.access (rowR c t)).write (Elt F) f w Finset.univ) i = if (i 0).val = t.val then w (inRow i) else f i := by
  by_cases h : (i 0).val = t.val
  · rw [if_pos h]
    have e : (yM.access (rowR c t)).emb (inRow i) = i := by
      funext a
      apply Fin.ext
      refine (ValueKit.view_emb_slice_whole_unit_val cc0_stg5_0 _ _ _ (inRow i) a).trans ?_
      match a with
      | 0 => exact h.symm
      | 1 => exact Nat.zero_add _
      | 2 =>
        show 512 * (c.val % 2) + (i 2).val % 512 = (i 2).val
        omega
    have := View.write_emb_of_mem (v := yM.access (rowR c t)) (Val := Elt F) f w (M := Finset.univ) (x := inRow i) (Finset.mem_univ _)
    rw [e] at this
    exact this
  · rw [if_neg h]
    exact View.write_of_not_mem (v := yM.access (rowR c t)) (Val := Elt F) f w Finset.univ (fun hm => h ((mem_row c t i).1 hm).1)

/-- What a row read off the array holds. -/
theorem read_row (c : Dev nD) (t : Fin 1024) (f : S1024x4x1024.Idx → Elt F .bf16) (j : S1x4x512.Idx) :
    ∃ i : S1024x4x1024.Idx, (yM.access (rowR c t)).read (Elt F) f j = f i ∧ (i 0).val = t.val ∧ inRow i = j := by
  refine ⟨(yM.access (rowR c t)).emb j, rfl, ?_, ?_⟩
  · refine (ValueKit.view_emb_slice_whole_unit_val cc0_stg5_0 _ _ _ j 0).trans ?_
    have : (j 0).val < 1 := (j 0).isLt
    show t.val + (j 0).val = t.val
    omega
  · funext a
    apply Fin.ext
    have hv := ValueKit.view_emb_slice_whole_unit_val cc0_stg5_0 _ _ (rowFits c t) j
    match a with
    | 0 =>
      have : (j 0).val < 1 := (j 0).isLt
      show 0 = (j 0).val
      omega
    | 1 => exact (hv 1).trans (Nat.zero_add _)
    | 2 =>
      have h2 : (j 2).val < 512 := (j 2).isLt
      refine (congrArg (· % 512) (hv 2)).trans ?_
      show (512 * (c.val % 2) + (j 2).val) % 512 = (j 2).val
      omega

/-- The array in the middle of a chunk: the rows before `t` written, the others as before. -/
def mixY (f : S1024x4x1024.Idx → Elt F .bf16) (t : ℕ) : S1024x4x1024.Idx → Elt F .bf16 :=
  fun i => if (i 0).val < t then own I i else f i

theorem write_mix (c : Dev nD) (k : Fin 8) (t : Fin 1024) (f : S1024x4x1024.Idx → Elt F .bf16) :
    ∀ i ∈ slab c k, ((yM.access (rowR c t)).write (Elt F) (mixY I f t.val) (rowAt I t.val t.isLt) Finset.univ) i
      = mixY I f (t.val + 1) i := by
  intro i hi
  rw [write_row c t _ _ i ((mem_slab c k i).1 hi).2]
  unfold mixY
  by_cases h : (i 0).val = t.val
  · rw [if_pos h, if_pos (by omega)]
    unfold own
    simp only [h]
  · rw [if_neg h]
    by_cases h' : (i 0).val < t.val
    · rw [if_pos h', if_pos (by omega)]
    · rw [if_neg h', if_neg (by omega)]

theorem mix_start (c : Dev nD) (k : Fin 8) (f : S1024x4x1024.Idx → Elt F .bf16) :
    ∀ i ∈ slab c k, f i = mixY I f (128 * k.val) i := by
  intro i hi
  have := ((mem_slab c k i).1 hi).1
  unfold mixY
  rw [if_neg (by omega)]
theorem mix_end (c : Dev nD) (k : Fin 8) (f : S1024x4x1024.Idx → Elt F .bf16) :
    ∀ i ∈ slab c k, mixY I f (128 * k.val + 128) i = own I i := by
  intro i hi
  have := ((mem_slab c k i).1 hi).1
  unfold mixY
  rw [if_pos (by omega)]

/-! ## The correction -/

/-- The carried states before position `t` of the groups, from the state `g` handed over. -/
def cAt (g : Vec F S4x32x512 .bf16) : ℕ → FVec F S4x4x32x512 .bf16
  | 0 => k0_pay700 (F := F)
      ((gM.access (Rect.unit (s := S4x32x512) ![0, 0, 0] S4x32x512.size inb_S4x32x512_S4x32x512_0_0_0)).read (Elt F) g)
      ((pM.access (Rect.unit (s := S4x32x512) ![0, 0, 0] S4x32x512.size inb_S4x32x512_S4x32x512_0_0_0)).read (Elt F) I.p)
  | t + 1 => decayV (da I) (cAt g t)

theorem cRowFits (t : Fin 1024) :
    ∀ a, (![t.val, 0, 0] : Fin 3 → ℕ) a + S1x4x32.size a ≤ S1024x4x32.size a := by
  have ht := t.isLt
  intro a
  match a with
  | 0 => exact ht
  | 1 => exact le_refl 4
  | 2 => exact le_refl 32
abbrev cRowR (t : Fin 1024) : Rect S1024x4x32 :=
  Rect.unit (s := S1024x4x32) ![t.val, 0, 0] S1x4x32.size (cRowFits t)

/-- Row `t` of the output weights. -/
def cRow (t : Fin 1024) : Vec F S1x4x32 .bf16 := (cM.access (cRowR t)).read (Elt F) I.c

/-- The row of results at position `t` among the first 128, corrected. -/
def fixRow (g : Vec F S4x32x512 .bf16) (t : Fin 128) : FVec F S1x4x512 .bf16 :=
  corrRow (rowAt I t.val (by omega)) (cRow I ⟨t.val, by omega⟩) (cAt I g (t.val % 32 + 1)) (t.val / 32) (by omega)

/-- The array of results with its first 128 rows corrected. -/
def fixed (g : Vec F S4x32x512 .bf16) : Vec F S1024x4x1024 .bf16 :=
  fun i => if h : (i 0).val < 128 then fixRow I g ⟨(i 0).val, h⟩ (inRow i) else own I i

/-- The array in the middle of the correction: of the groups of 32 rows, the rows before `t` done, and row `t` done in
    the groups before `n`. -/
def mixC (g : Vec F S4x32x512 .bf16) (t n : ℕ) : Vec F S1024x4x1024 .bf16 :=
  fun i => if (i 0).val % 32 < t ∨ ((i 0).val % 32 = t ∧ (i 0).val / 32 < n) then fixed I g i else own I i

theorem read_mixC (g : Vec F S4x32x512 .bf16) (c : Dev nD) (t n : ℕ) (ht : t < 32) (hn : n < 4) (hT : 32 * n + t < 1024) :
    (yM.access (rowR c ⟨32 * n + t, hT⟩)).read (Elt F) (mixC I g t n) = rowAt I (32 * n + t) hT := by
  funext j
  obtain ⟨i, e, e0, ej⟩ := read_row c ⟨32 * n + t, hT⟩ (mixC I g t n) j
  have e0' : (i 0).val = 32 * n + t := e0
  rw [e]
  unfold mixC
  rw [if_neg (by omega)]
  unfold own
  simp only [e0', ej]

theorem fixRow_eq (g : Vec F S4x32x512 .bf16) (t n : ℕ) (ht : t < 32) (hn : n < 4) (hT : 32 * n + t < 1024)
    (x : ℕ) (hx : x < 128) (e : x = 32 * n + t) :
    fixRow I g ⟨x, hx⟩ = corrRow (rowAt I (32 * n + t) hT) (cRow I ⟨32 * n + t, hT⟩) (cAt I g (t + 1)) n hn := by
  subst e
  have h1 : (32 * n + t) / 32 = n := by omega
  have h2 : (32 * n + t) % 32 = t := by omega
  unfold fixRow
  simp only [h2]
  congr 1

theorem write_mixC (g : Vec F S4x32x512 .bf16) (c : Dev nD) (t n : ℕ) (ht : t < 32) (hn : n < 4) (hT : 32 * n + t < 1024) :
    ∀ i ∈ slab c 0, ((yM.access (rowR c ⟨32 * n + t, hT⟩)).write (Elt F) (mixC I g t n)
      (corrRow (rowAt I (32 * n + t) hT) (cRow I ⟨32 * n + t, hT⟩) (cAt I g (t + 1)) n hn) Finset.univ) i
      = mixC I g t (n + 1) i := by
  intro i hi
  have hm := (mem_slab c 0 i).1 hi
  have hm0 : (i 0).val < 128 := by have := hm.1.2; omega
  rw [write_row c _ _ _ i hm.2]
  unfold mixC
  by_cases h : (i 0).val = 32 * n + t
  · rw [if_pos h, if_pos (by omega)]
    unfold fixed
    rw [dif_pos hm0, fixRow_eq I g t n ht hn hT _ hm0 h]
  · rw [if_neg h]
    by_cases h' : (i 0).val % 32 < t ∨ ((i 0).val % 32 = t ∧ (i 0).val / 32 < n)
    · rw [if_pos h', if_pos (by omega)]
    · rw [if_neg h', if_neg (by omega)]

theorem mixC_next (g : Vec F S4x32x512 .bf16) (c : Dev nD) (t : ℕ) :
    ∀ i ∈ slab c 0, mixC I g t 4 i = mixC I g (t + 1) 0 i := by
  intro i hi
  have hm := (mem_slab c 0 i).1 hi
  have hm0 : (i 0).val < 128 := by have := hm.1.2; omega
  unfold mixC
  by_cases h' : (i 0).val % 32 < t + 1
  · rw [if_pos (by omega), if_pos (by omega)]
  · rw [if_neg (by omega), if_neg (by omega)]

theorem mixC_start (g : Vec F S4x32x512 .bf16) (c : Dev nD) : ∀ i ∈ slab c 0, own I i = mixC I g 0 0 i := by
  intro i _
  unfold mixC
  rw [if_neg (by omega)]

theorem mixC_end (g : Vec F S4x32x512 .bf16) (c : Dev nD) : ∀ i ∈ slab c 0, mixC I g 32 0 i = fixed I g i := by
  intro i _
  unfold mixC
  rw [if_pos (by omega)]

/-- The state a device of the first half hands over. -/
def lastState : Vec F S4x32x512 .bf16 := k0_pay699 (F := F) (hAt I 1024)

end Cert.KernelIdeal.Scan
-- ==== Proof.Steps.lean ====
module

public import proofs.«01_k».proof.Proof.Values
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pipeline.RegionTalk

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The resource algebra: the pipeline's own rounds, and the protocol's, with two duties to a round. -/
abbrev UU : Type := UR sig nD τ × URounds (GSem nD τ sig) Bool

local notation "𝕄" => MT nD τ sig Unit (Elt F) ℕ UU ℕ

abbrev 𝒱₀ : Variants := Variants.none

variable (I : Ins F)

/-- Buffer `b` of device `c`, whole. -/
abbrev pt (c : Dev nD) (b : Ref sig .tc) (f : b.ty.Contents (Elt F)) : sProp 𝕄 := ((c : Thread nD τ).loc b) ↦{fullShare} f

/-- The slab of device `c'`'s half in chunk `k`, in the array of results of device `c`. -/
abbrev yPt (c c' : Dev nD) (k : Fin 8) (f : S1024x4x1024.Idx → Elt F .bf16) : sProp 𝕄 :=
  ((c : Thread nD τ).loc cc0_stg5_0) ↦[slab c' k]{fullShare} f

/-- The inputs of a device's kernel. -/
def insPt (c : Dev nD) : sProp 𝕄 :=
  iprop(pt c cc0_stg0_0 I.x ∗ pt c cc0_stg1_0 I.dA ∗ pt c cc0_stg2_0 I.p ∗ pt c cc0_stg3_0 I.b ∗ pt c cc0_stg4_0 I.c)

theorem yPt_congr (c c' : Dev nD) (k : Fin 8) {f g : S1024x4x1024.Idx → Elt F .bf16} (h : ∀ i ∈ slab c' k, f i = g i) :
    (yPt c c' k f : sProp 𝕄) ⊢ yPt c c' k g := by
  exact Entails.of_eq (pointsTo_congr h)

local notation "Ε" => wpE (defs₀ (F := F)) 𝒱₀

section Access

variable {α : Type} (c : Dev nD) (k : Fin 8)

/-- A load of a row of an own slab. -/
theorem load_row {t : Fin 1024} (ht : 128 * k.val ≤ t.val ∧ t.val < 128 * k.val + 128)
    {off : Fin 3 → ℕ} {inb : ∀ a, off a + S1x4x512.size a ≤ S1024x4x1024.size a}
    (e : off = ![t.val, 0, 512 * (c.val % 2)])
    {hl} {K : Vec F S1x4x512 .bf16 → Prog (TpuEff nD τ sig (Elt F) Λ₀ .tc) α} {Q : α → sProp 𝕄} (f : S1024x4x1024.Idx → Elt F .bf16) :
    yPt c c k f ⊢ iprop((yPt c c k f -∗ wp frame (Ε c none) Set.univ (K ((yM.access (rowR c t)).read (Elt F) f)) Q)
      -∗ wp frame (Ε c none) Set.univ
        (.op (.load yM (Rect.unit (s := S1024x4x1024) off S1x4x512.size inb).toLoadRect hl) K) Q) := by
  subst e
  exact wp_load_rect (m := yM) (r := rowR c t) 𝒱₀ (c : Thread nD τ) none Set.univ (row_sub c k t ht)

/-- A store of a row of an own slab. -/
theorem store_row {t : Fin 1024} (ht : 128 * k.val ≤ t.val ∧ t.val < 128 * k.val + 128)
    {off : Fin 3 → ℕ} {inb : ∀ a, off a + S1x4x512.size a ≤ S1024x4x1024.size a}
    (e : off = ![t.val, 0, 512 * (c.val % 2)])
    {w : Vec F S1x4x512 .bf16} {hx hm} {K : PUnit → Prog (TpuEff nD τ sig (Elt F) Λ₀ .tc) α} {Q : α → sProp 𝕄} (f g : S1024x4x1024.Idx → Elt F .bf16)
    (hg : ∀ i ∈ slab c k, ((yM.access (rowR c t)).write (Elt F) f w Finset.univ) i = g i) :
    yPt c c k f ⊢ iprop((yPt c c k g -∗ wp frame (Ε c none) Set.univ (K ⟨⟩) Q)
      -∗ wp frame (Ε c none) Set.univ
        (.op (.store yM (Rect.unit (s := S1024x4x1024) off S1x4x512.size inb) w Finset.univ hx hm) K) Q) := by
  subst e
  iintro Hy HK
  iapply (wp_store (m := yM) (r := rowR c t) 𝒱₀ (c : Thread nD τ) none Set.univ (S := slab c k) (f := f) (row_sub c k t ht)) $$ Hy
  iintro Hy
  iapply HK
  iapply (yPt_congr c c k hg) $$ Hy

/-- A load of part of a whole buffer. -/
theorem load_in {s : Shape} {ety : EltTy} {cs : CoreSpace} {m : Memref sig .tc cs s ety} (r : Rect s)
    {hl} {K : (r.shape.Idx → Elt F ety) → Prog (TpuEff nD τ sig (Elt F) Λ₀ .tc) α} {Q : α → sProp 𝕄}
    (f : Buf (Elt F) (m.view.loc (c : Thread nD τ))) :
    (m.view.loc (c : Thread nD τ) ↦{fullShare} f : sProp 𝕄) ⊢ iprop(((m.view.loc (c : Thread nD τ) ↦{fullShare} f) -∗ wp frame (Ε c none) Set.univ (K ((m.access r).read (Elt F) f)) Q)
      -∗ wp frame (Ε c none) Set.univ
        (.op (.load m r.toLoadRect hl) K) Q) :=
  wp_load_rect (m := m) (r := r) 𝒱₀ (c : Thread nD τ) none Set.univ (Finset.subset_univ _)

end Access

/-! ## The scan over a chunk -/

section Scan

variable (c : Dev nD) (k : Fin 8)

theorem steps_wp (q : Fin 32) (hq : q.val / 4 = k.val) (o : RowOffs)
    (ho : ∀ j : Fin 32, o.off (BitVec.ofNat 32 j.val) = ![32 * q.val + j.val, 0, 512 * (c.val % 2)])
    (f : S1024x4x1024.Idx → Elt F .bf16) (Q : FVec F S4x32x512 .bf16 → sProp 𝕄) :
    ∀ (n j : ℕ) (hj : j + n ≤ 32),
      iprop(yPt c c k (mixY I f (32 * q.val + j)) ∗ (yPt c c k (mixY I f (32 * q.val + (j + n))) -∗ Q (hAt I (32 * q.val + (j + n)))))
        ⊢ wp frame (Ε c none) Set.univ (steps kArgs o (da I) (xs I q) (bs I q) (cs I q) n j hj (hAt I (32 * q.val + j))) Q := by
  intro n
  induction n with
  | zero =>
    intro j hj
    simp only [steps]
    refine BIBase.Entails.trans ?_ (Entails.of_eq (wp_ret ..).symm)
    iintro ⟨Hy, HQ⟩
    imodintro
    iapply HQ; iexact Hy
  | succ n ih =>
    intro j hj
    have hT : 32 * q.val + j < 1024 := by have := q.isLt; omega
    have hj' : j < 32 := by omega
    have hj'' : j + 1 + n ≤ 32 := by omega
    have hin : 128 * k.val ≤ 32 * q.val + j ∧ 32 * q.val + j < 128 * k.val + 128 := by omega
    simp only [steps, Prog.bind_lift]
    iintro ⟨Hy, HQ⟩
    iapply (load_row c k (t := ⟨32 * q.val + j, hT⟩) hin (ho ⟨j, hj'⟩) (mixY I f (32 * q.val + j))) $$ Hy
    iintro Hy
    iapply (store_row c k (t := ⟨32 * q.val + j, hT⟩) hin (ho ⟨j, hj'⟩) (mixY I f (32 * q.val + j)) (mixY I f (32 * q.val + (j + 1)))
      (by rw [hAt_step, ← rowAt_eq I q j hj' hT]; exact write_mix I c k ⟨32 * q.val + j, hT⟩ f)) $$ Hy
    iintro Hy
    rw [hAt_step, show j + (n + 1) = j + 1 + n by omega]
    iapply (ih (j + 1) hj'')
    isplitl [Hy]
    · iexact Hy
    · iexact HQ

theorem trip_wp (q : Fin 32) (hq : q.val / 4 = k.val) {offX : Fin 3 → ℕ} {hX : ∀ i, offX i + S32x4x512.size i ≤ S1024x4x512.size i}
    {offB : Fin 3 → ℕ} {hB : ∀ i, offB i + S32x4x32.size i ≤ S1024x4x32.size i} (eX : offX = ![32 * q.val, 0, 0]) (eB : offB = ![32 * q.val, 0, 0]) (o : RowOffs)
    (ho : ∀ j : Fin 32, o.off (BitVec.ofNat 32 j.val) = ![32 * q.val + j.val, 0, 512 * (c.val % 2)])
    (f : S1024x4x1024.Idx → Elt F .bf16) (Q : FVec F S4x32x512 .bf16 → sProp 𝕄) :
      iprop(insPt I c ∗ yPt c c k (mixY I f (32 * q.val)) ∗ (insPt I c -∗ yPt c c k (mixY I f (32 * q.val + 32)) -∗ Q (hAt I (32 * q.val + 32))))
        ⊢ wp frame (Ε c none) Set.univ (trip kArgs offX hX offB hB o (da I) (hAt I (32 * q.val))) Q := by
  subst eX eB
  unfold trip insPt
  simp only [Prog.bind_lift]
  iintro ⟨⟨Hx, Hd, Hp, Hb, Hc⟩, Hy, HQ⟩
  iapply (load_in (m := xM) c _ I.x) $$ Hx
  iintro Hx
  iapply (load_in (m := bM) c _ I.b) $$ Hb
  iintro Hb
  iapply (load_in (m := cM) c _ I.c) $$ Hc
  iintro Hc
  iapply (steps_wp I c k q hq o ho f Q 32 0 (by omega))
  isplitl [Hy]
  · iexact Hy
  · iintro Hy
    iapply HQ $$ [Hx Hd Hp Hb Hc]
    · iframe
    · iexact Hy

theorem chunkLoop_wp (f : S1024x4x1024.Idx → Elt F .bf16) (Q : FVec F S4x32x512 .bf16 → sProp 𝕄) :
      iprop(insPt I c ∗ yPt c c k f ∗ (insPt I c -∗ yPt c c k (own I) -∗ Q (hAt I (128 * (k.val + 1)))))
        ⊢ wp frame (Ε c none) Set.univ (chunkLoop kArgs c k (da I) (hAt I (128 * k.val))) Q := by
  have h4 : (chunk c k).loop.trips = 4 := trips_eq c k
  refine BIBase.Entails.trans ?_ (Scf.wp_for (Fr := frame) (wpE := Ε c none) (Es := Set.univ) _ _ _ (chunk c k).ok (hAt I (128 * k.val)) _
    (fun n h => iprop(⌜h = hAt I (32 * (4 * k.val + n))⌝ ∗ insPt I c ∗ yPt c c k (mixY I f (32 * (4 * k.val + n))))) ?_)
  · iintro ⟨Hi, Hy, HQ⟩
    isplitl [Hi Hy]
    · isplitr
      · ipureintro; rw [show 32 * (4 * k.val + 0) = 128 * k.val by omega]
      · iframe
        rw [show 32 * (4 * k.val + 0) = 128 * k.val by omega]
        iapply (yPt_congr c c k (mix_start I c k f)) $$ Hy
    · iintro %h ⟨%e, Hi, Hy⟩
      have e4 : Scf.trips (chunk c k).loop.lb (chunk c k).loop.ub (chunk c k).loop.st = 4 := h4
      have e5 : 32 * (4 * k.val + 4) = 128 * (k.val + 1) := by omega
      have e6 : 32 * (4 * k.val + 4) = 128 * k.val + 128 := by omega
      rw [e4] at e
      rw [e, e4, e5]
      iapply HQ $$ [Hi]
      · iexact Hi
      · rw [← e5, e6]
        iapply (yPt_congr c c k (mix_end I c k f)) $$ Hy
  · intro t h
    iintro ⟨%e, Hi, Hy⟩
    have ht : t.val < 4 := lt_of_lt_of_eq t.isLt h4
    have hk := k.isLt
    rw [e]
    iapply (trip_wp I c k ⟨4 * k.val + t.val, by omega⟩ (by show (4 * k.val + t.val) / 4 = k.val; omega) (offX_eq c k t) (offB_eq c k t) ((chunk c k).rows t) (rows_eq c k t) f)
    iframe
    iintro Hi Hy
    isplitr
    · ipureintro; rfl
    · iframe

end Scan

/-! ## The correction of the first slab -/

section Correct

variable (c : Dev nD) (g : Vec F S4x32x512 .bf16)

/-- A load of a row of the output weights. -/
theorem load_cRow {α : Type} (t : Fin 1024) {off : Fin 3 → ℕ} {inb : ∀ a, off a + S1x4x32.size a ≤ S1024x4x32.size a}
    (e : off = ![t.val, 0, 0])
    {hl} {K : Vec F S1x4x32 .bf16 → Prog (TpuEff nD τ sig (Elt F) Λ₀ .tc) α} {Q : α → sProp 𝕄} :
    pt c cc0_stg4_0 I.c ⊢ iprop((pt c cc0_stg4_0 I.c -∗ wp frame (Ε c none) Set.univ (K (cRow I t)) Q)
      -∗ wp frame (Ε c none) Set.univ
        (.op (.load cM (Rect.unit (s := S1024x4x32) off S1x4x32.size inb).toLoadRect hl) K) Q) := by
  subst e
  exact load_in (m := cM) c (cRowR t) I.c

theorem corrGroups_wp (h3 : k0_cond3 c = 1#1) (t : Fin k0_t9_loop.trips) (j : ℕ) (hj : j < 8) (Q : PUnit → sProp 𝕄) :
    ∀ (n a : ℕ) (ha : a + n ≤ 4),
      iprop(pt c cc0_stg4_0 I.c ∗ yPt c c 0 (mixC I g (8 * t.val + j) a)
          ∗ (pt c cc0_stg4_0 I.c -∗ yPt c c 0 (mixC I g (8 * t.val + j) (a + n)) -∗ Q ⟨⟩))
        ⊢ wp frame (Ε c none) Set.univ (corrGroups kArgs c h3 t j hj (cAt I g (8 * t.val + j + 1)) n a ha) Q := by
  intro n
  have ht : t.val < 4 := lt_of_lt_of_eq t.isLt corr_trips
  induction n with
  | zero =>
    intro a ha
    simp only [corrGroups]
    refine BIBase.Entails.trans ?_ (Entails.of_eq (wp_ret ..).symm)
    iintro ⟨Hc, Hy, HQ⟩
    imodintro
    iapply HQ $$ [Hc]
    · iexact Hc
    · iexact Hy
  | succ n ih =>
    intro a ha
    have ha4 : a < 4 := by omega
    have ha' : a + 1 + n ≤ 4 := by omega
    have hT : 32 * a + (8 * t.val + j) < 1024 := by omega
    have ht32 : 8 * t.val + j < 32 := by omega
    have hin : 128 * (0 : Fin 8).val ≤ 32 * a + (8 * t.val + j) ∧ 32 * a + (8 * t.val + j) < 128 * (0 : Fin 8).val + 128 := by
      have : (0 : Fin 8).val = 0 := rfl
      omega
    simp only [corrGroups, Prog.bind_lift]
    iintro ⟨Hc, Hy, HQ⟩
    iapply (load_row c 0 (t := ⟨32 * a + (8 * t.val + j), hT⟩) hin (corrY_eq c t ⟨a, ha4⟩ ⟨j, hj⟩) (mixC I g (8 * t.val + j) a)) $$ Hy
    iintro Hy
    iapply (load_cRow I c ⟨32 * a + (8 * t.val + j), hT⟩ (corrC_eq t ⟨a, ha4⟩ ⟨j, hj⟩)) $$ Hc
    iintro Hc
    iapply (load_row c 0 (t := ⟨32 * a + (8 * t.val + j), hT⟩) hin (corrY_eq c t ⟨a, ha4⟩ ⟨j, hj⟩) (mixC I g (8 * t.val + j) a)) $$ Hy
    iintro Hy
    iapply (store_row c 0 (t := ⟨32 * a + (8 * t.val + j), hT⟩) hin (corrY_eq c t ⟨a, ha4⟩ ⟨j, hj⟩) (mixC I g (8 * t.val + j) a) (mixC I g (8 * t.val + j) (a + 1))
      (by rw [read_mixC I g c _ a ht32 ha4 hT]; exact write_mixC I g c _ a ht32 ha4 hT)) $$ Hy
    iintro Hy
    rw [show a + (n + 1) = a + 1 + n by omega]
    iapply (ih (a + 1) ha')
    iframe

theorem corrSteps_wp (h3 : k0_cond3 c = 1#1) (t : Fin k0_t9_loop.trips) (Q : FVec F S4x4x32x512 .bf16 → sProp 𝕄) :
    ∀ (n j : ℕ) (hj : j + n ≤ 8),
      iprop(pt c cc0_stg4_0 I.c ∗ yPt c c 0 (mixC I g (8 * t.val + j) 0)
          ∗ (pt c cc0_stg4_0 I.c -∗ yPt c c 0 (mixC I g (8 * t.val + (j + n)) 0) -∗ Q (cAt I g (8 * t.val + (j + n)))))
        ⊢ wp frame (Ε c none) Set.univ (corrSteps kArgs c h3 (da I) t n j hj (cAt I g (8 * t.val + j))) Q := by
  intro n
  induction n with
  | zero =>
    intro j hj
    simp only [corrSteps]
    refine BIBase.Entails.trans ?_ (Entails.of_eq (wp_ret ..).symm)
    iintro ⟨Hc, Hy, HQ⟩
    imodintro
    iapply HQ $$ [Hc]
    · iexact Hc
    · iexact Hy
  | succ n ih =>
    intro j hj
    have hj8 : j < 8 := by omega
    have hj' : j + 1 + n ≤ 8 := by omega
    simp only [corrSteps]
    rw [show decayV (da I) (cAt I g (8 * t.val + j)) = cAt I g (8 * t.val + j + 1) from rfl]
    refine BIBase.Entails.trans ?_ (Entails.of_eq (wp_bind ..).symm)
    iintro ⟨Hc, Hy, HQ⟩
    iapply (corrGroups_wp I c g h3 t j hj8 _ 4 0 (Nat.le_refl 4))
    iframe
    iintro Hc Hy
    rw [show j + (n + 1) = j + 1 + n by omega]
    iapply (ih (j + 1) hj')
    isplitl [Hc]
    · iexact Hc
    · isplitl [Hy]
      · iapply (yPt_congr c c 0 (mixC_next I g c (8 * t.val + j))) $$ Hy
      · iexact HQ

/-- The loop of the correction. -/
theorem corrLoop_wp (h3 : k0_cond3 c = 1#1) (Q : FVec F S4x4x32x512 .bf16 → sProp 𝕄) :
      iprop(pt c cc0_stg4_0 I.c ∗ yPt c c 0 (own I) ∗ (pt c cc0_stg4_0 I.c -∗ yPt c c 0 (fixed I g) -∗ ∀ r, Q r))
        ⊢ wp frame (Ε c none) Set.univ (Scf.Loop.for k0_t9_loop (k0_t9_ok c h3) (cAt I g 0)
          fun t hc => corrSteps kArgs c h3 (da I) t 8 0 (by omega) hc) Q := by
  refine BIBase.Entails.trans ?_ (Scf.wp_for (Fr := frame) (wpE := Ε c none) (Es := Set.univ) _ _ _ (k0_t9_ok c h3) (cAt I g 0) _
    (fun n h => iprop(⌜h = cAt I g (8 * n)⌝ ∗ pt c cc0_stg4_0 I.c ∗ yPt c c 0 (mixC I g (8 * n) 0))) ?_)
  · iintro ⟨Hi, Hy, HQ⟩
    isplitl [Hi Hy]
    · isplitr
      · ipureintro; rfl
      · isplitl [Hi]
        · iexact Hi
        · iapply (yPt_congr c c 0 (mixC_start I g c)) $$ Hy
    · iintro %h ⟨-, Hi, Hy⟩
      have e4 : Scf.trips k0_t9_loop.lb k0_t9_loop.ub k0_t9_loop.st = 4 := corr_trips
      rw [e4]
      ispecialize HQ $$ [Hi]
      · iexact Hi
      ispecialize HQ $$ [Hy]
      · iapply (yPt_congr c c 0 (mixC_end I g c)) $$ Hy
      iapply HQ
  · intro t h
    iintro ⟨%e, Hi, Hy⟩
    rw [e]
    iapply (corrSteps_wp I c g h3 t _ 8 0 (Nat.le_refl 8))
    iframe
    iintro Hi Hy
    isplitr
    · ipureintro; rw [show 8 * t.val + (0 + 8) = 8 * (t.val + 1) by omega]
    · isplitl [Hi]
      · iexact Hi
      · rw [show 8 * t.val + (0 + 8) = 8 * (t.val + 1) by omega]; iexact Hy

end Correct

end Cert.KernelIdeal.Scan
-- ==== Proof.Protocol.lean ====
module

public import proofs.«01_k».proof.Proof.Steps

/-!
# The protocol between the four devices

Device `c` talks to two others: `xDev c`, which holds the other half of the sequence, and `yDev c`, which holds the other half of
the columns. The semaphores, and what each landing hands over:

* the barrier of `c`: `c` waits for two units. `xDev c` signals one, and hands over its landing buffer for the state (if `c` is in
  the first half of the sequence, hence sends its state there). `yDev c` signals one, and hands over, of its array of results, the
  eight slabs of `c`'s half of the columns.
* `st_send` of `c` in the first half: credited by `c`'s own copy of its final state; the state buffer comes back.
* `st_recv` of `c` in the second half: credited by that copy of `xDev c`; the landing buffer comes back and holds the final state of
  `xDev c`.
* `y_send k` of `c`: credited by `c`'s own copy of slab `k`; the slab comes back.
* `y_recv k` of `c`: credited by the copy of slab `k` by `yDev c`; the slab of the other half comes back and holds the results of
  `yDev c`.

A device owes both barriers, then the slabs and the state, so a wait on the barrier is below a wait for the state, which is below
a wait for a slab.
-/

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Cells -/

abbrev barS : Sem sig := (SemArray.scalar (sig.barrier 0 rfl) : Sems sig S_).sem
abbrev barC (c : Dev nD) : GSem nD τ sig := ((c : Thread nD τ), .reg barS)
abbrev stSC (c : Dev nD) : GSem nD τ sig := ((c : Thread nD τ), .dma kArgs.arg8.sem)
abbrev stRC (c : Dev nD) : GSem nD τ sig := ((c : Thread nD τ), .dma kArgs.arg9.sem)
abbrev ySC (c : Dev nD) (k : Fin 8) : GSem nD τ sig := ((c : Thread nD τ), .dma (sem8 kArgs.arg10 k))
abbrev yRC (c : Dev nD) (k : Fin 8) : GSem nD τ sig := ((c : Thread nD τ), .dma (sem8 kArgs.arg11 k))

/-- What a semaphore is for. -/
inductive Role
  | bar
  | stS
  | stR
  | yS (k : Fin 8)
  | yR (k : Fin 8)
  | other
  deriving DecidableEq

/-- The use of each semaphore. -/
def role : SemLoc sig → Role
  | .reg _ => .bar
  | .dma s =>
    if s.val = 6 then .stS
    else if s.val = 7 then .stR
    else if 8 ≤ s.val ∧ s.val < 16 then .yS ⟨s.val % 8, Nat.mod_lt _ (by decide)⟩
    else if 16 ≤ s.val ∧ s.val < 24 then .yR ⟨s.val % 8, Nat.mod_lt _ (by decide)⟩
    else .other

theorem role_stS : role (.dma kArgs.arg8.sem) = .stS := by decide
theorem role_stR : role (.dma kArgs.arg9.sem) = .stR := by decide
theorem role_yS (k : Fin 8) : role (.dma (sem8 kArgs.arg10 k)) = .yS k := by revert k; decide
theorem role_yR (k : Fin 8) : role (.dma (sem8 kArgs.arg11 k)) = .yR k := by revert k; decide

/-- The units of a copy of a slab, of the state. -/
def N : ℕ := (slabM kArgs 0 0).view.dmaCredit
def M : ℕ := hM.view.dmaCredit
theorem slab_credit (c : Dev nD) (k : Fin 8) : (slabM kArgs c k).view.dmaCredit = N := rfl
theorem state_credit : gM.view.dmaCredit = M := rfl
theorem N_pos : 0 < N := View.dmaCredit_pos _ (by decide)
theorem M_pos : 0 < M := View.dmaCredit_pos _ (by decide)

/-! ## Contents -/

variable (J : Dev nD → Ins F)

/-- What the own half of a device's array of results holds in the end. -/
def out (c : Dev nD) : Vec F S1024x4x1024 .bf16 :=
  if c.val < 2 then own (J c) else fixed (J c) (lastState (J (xDev c)))

theorem out_first (c : Dev nD) (hc : c.val < 2) : out J c = own (J c) := if_pos hc
theorem out_second (c : Dev nD) (hc : ¬ c.val < 2) : out J c = fixed (J c) (lastState (J (xDev c))) := if_neg hc

theorem out_later (c : Dev nD) (k : Fin 8) (hk : 1 ≤ k.val) : ∀ i ∈ slab c k, own (J c) i = out J c i := by
  intro i hi
  have h := (mem_slab c k i).mp hi
  unfold out
  split
  · rfl
  · unfold fixed
    rw [dif_neg (by omega)]

/-! ## The schedule -/

/-- Paid to the barrier of `c` by `xDev c`. -/
def barX (c : Dev nD) : sProp 𝕄 :=
  if c.val < 2 then iprop((∃ f, pt (xDev c) cc0_scratch1 f) ∗ reached ER (stRC (xDev c)) 0) else iprop(emp)
/-- Paid to the barrier of `c` by `yDev c`: the slabs of `c`'s half there. -/
def barY (c : Dev nD) : sProp 𝕄 :=
  bigSep Finset.univ fun k : Fin 8 => iprop((∃ f, yPt (yDev c) c k f) ∗ reached ER (yRC (yDev c) k) 0)

instance barX_storable (c : Dev nD) : BI.Storable (upEmb : UEmb _ 𝕄) (barX (F := F) c) := by
  unfold barX; split <;> infer_instance
instance barY_storable (c : Dev nD) : BI.Storable (upEmb : UEmb _ 𝕄) (barY (F := F) c) := by
  unfold barY; infer_instance

def payOf (c : Dev nD) : Role → Bool → sProp 𝕄
  | .bar, true => barX c
  | .bar, false => barY c
  | .stS, _ => pt c cc0_scratch0 (lastState (J c))
  | .stR, _ => pt c cc0_scratch1 (lastState (J (xDev c)))
  | .yS k, _ => yPt c c k (out J c)
  | .yR k, _ => yPt c (yDev c) k (out J (yDev c))
  | .other, _ => iprop(emp)

def dutiesOf (c : Dev nD) : Role → Finset Bool
  | .bar => Finset.univ
  | .stS => if c.val < 2 then {true} else ∅
  | .stR => if c.val < 2 then ∅ else {true}
  | .yS _ => {true}
  | .yR _ => {true}
  | .other => ∅

def unitsOf : Role → ℕ
  | .bar => 1
  | .stS => M
  | .stR => M
  | _ => N

/-- One round on each cell. -/
def rd : Rounds.Schedule (GSem nD τ sig) Bool 𝕄 where
  duties g r := if r = 0 ∧ g.1.2 = .tc then dutiesOf g.1.1 (role g.2) else ∅
  unitless _ := False
  amount g _ _ := unitsOf (role g.2)
  payload g _ d := payOf J g.1.1 (role g.2) d
  amount_pos g _ _ _ := by
    cases role g.2 <;> first | exact Nat.one_pos | exact M_pos | exact N_pos

instance rd_storable (g : GSem nD τ sig) (r : ℕ) (d : Bool) :
    BI.Storable (upEmb : UEmb _ 𝕄) ((rd J).payload g r d) := by
  show BI.Storable upEmb (payOf J g.1.1 (role g.2) d)
  cases role g.2 <;> cases d <;> (unfold payOf; infer_instance)

section Tables

variable (c : Dev nD) (k : Fin 8)

theorem duties_at (sm : SemLoc sig) : (rd J).duties ((c : Thread nD τ), sm) 0 = dutiesOf c (role sm) := by
  dsimp only [rd]; exact if_pos ⟨rfl, rfl⟩
theorem duties_bar : (rd J).duties (barC c) 0 = Finset.univ := rfl
theorem duties_stS (hc : c.val < 2) : (rd J).duties (stSC c) 0 = {true} := by
  rw [duties_at, role_stS]; exact if_pos hc
theorem duties_stR (hc : ¬ c.val < 2) : (rd J).duties (stRC c) 0 = {true} := by
  rw [duties_at, role_stR]; exact if_neg hc
theorem no_duties_stS (hc : ¬ c.val < 2) : (rd J).duties (stSC c) 0 = ∅ := by
  rw [duties_at, role_stS]; exact if_neg hc
theorem no_duties_stR (hc : c.val < 2) : (rd J).duties (stRC c) 0 = ∅ := by
  rw [duties_at, role_stR]; exact if_pos hc
theorem duties_yS : (rd J).duties (ySC c k) 0 = {true} := by
  rw [duties_at, role_yS]; rfl
theorem duties_yR : (rd J).duties (yRC c k) 0 = {true} := by
  rw [duties_at, role_yR]; rfl
theorem duties_later (g : GSem nD τ sig) : ∀ r, 1 ≤ r → (rd J).duties g r = ∅ :=
  fun r hr => by dsimp only [rd]; exact if_neg fun h => by omega

theorem units_bar (d : Bool) : (rd J).amount (barC c) 0 d = 1 := rfl
theorem units_stS (d : Bool) : (rd J).amount (stSC c) 0 d = M := by
  show unitsOf (role (.dma kArgs.arg8.sem)) = _; rw [role_stS]; rfl
theorem units_stR (d : Bool) : (rd J).amount (stRC c) 0 d = M := by
  show unitsOf (role (.dma kArgs.arg9.sem)) = _; rw [role_stR]; rfl
theorem units_yS (d : Bool) : (rd J).amount (ySC c k) 0 d = N := by
  show unitsOf (role (.dma (sem8 kArgs.arg10 k))) = _; rw [role_yS]; rfl
theorem units_yR (d : Bool) : (rd J).amount (yRC c k) 0 d = N := by
  show unitsOf (role (.dma (sem8 kArgs.arg11 k))) = _; rw [role_yR]; rfl

theorem pay_barX : (rd J).payload (barC c) 0 true = barX c := rfl
theorem pay_barY : (rd J).payload (barC c) 0 false = barY c := rfl
theorem pay_stS (d : Bool) : (rd J).payload (stSC c) 0 d = pt c cc0_scratch0 (lastState (J c)) := by
  show payOf J c (role (.dma kArgs.arg8.sem)) d = _; rw [role_stS]; rfl
theorem pay_stR (d : Bool) : (rd J).payload (stRC c) 0 d = pt c cc0_scratch1 (lastState (J (xDev c))) := by
  show payOf J c (role (.dma kArgs.arg9.sem)) d = _; rw [role_stR]; rfl
theorem pay_yS (d : Bool) : (rd J).payload (ySC c k) 0 d = yPt c c k (out J c) := by
  show payOf J c (role (.dma (sem8 kArgs.arg10 k))) d = _; rw [role_yS]; rfl
theorem pay_yR (d : Bool) : (rd J).payload (yRC c k) 0 d = yPt c (yDev c) k (out J (yDev c)) := by
  show payOf J c (role (.dma (sem8 kArgs.arg11 k))) d = _; rw [role_yR]; rfl

theorem expect_bar : (rd J).expect (barC c) 0 = 2 := rfl
theorem expect_one {g : GSem nD τ sig} {n : ℕ} (hd : (rd J).duties g 0 = {true}) (hn : (rd J).amount g 0 true = n) :
    (rd J).expect g 0 = n := by
  unfold Schedule.expect Schedule.amountOf; rw [hd, Finset.sum_singleton, hn]
theorem rest_bar : bigSep ((rd J).duties (barC c) 0 \ ∅) (fun d => (rd J).payload (barC c) 0 d) = iprop(barY c ∗ barX c) := by
  rw [Finset.sdiff_empty, duties_bar, show (Finset.univ : Finset Bool) = {false, true} by decide,
    bigSep_insert (by decide), bigSep_singleton]
  rfl
theorem rest_one {g : GSem nD τ sig} {P : sProp 𝕄} (hd : (rd J).duties g 0 = {true}) (hn : (rd J).payload g 0 true = P) :
    bigSep ((rd J).duties g 0 \ ∅) (fun d => (rd J).payload g 0 d) = P := by
  rw [Finset.sdiff_empty, hd, bigSep_singleton, hn]

end Tables

/-! ## What a device owes, and the levels -/

/-- The chunks from `a` on below `b`. -/
def mid (a b : ℕ) : Finset (Fin 8) := Finset.univ.filter fun k => a ≤ k.val ∧ k.val < b

theorem mid_head {a b : ℕ} (h : a < b) (ha : a < 8) : mid a b = insert ⟨a, ha⟩ (mid (a + 1) b) := by
  ext k; simp only [mid, Finset.mem_filter, Finset.mem_univ, true_and, Finset.mem_insert, Fin.ext_iff]; omega
theorem mid_head_not {a b : ℕ} (ha : a < 8) : (⟨a, ha⟩ : Fin 8) ∉ mid (a + 1) b := by
  simp only [mid, Finset.mem_filter, Finset.mem_univ, true_and]; omega
theorem mid_tail {a n : ℕ} (h : a ≤ n) (hn : n < 8) : mid a (n + 1) = insert ⟨n, hn⟩ (mid a n) := by
  ext k; simp only [mid, Finset.mem_filter, Finset.mem_univ, true_and, Finset.mem_insert, Fin.ext_iff]; omega
theorem mid_tail_not {a n : ℕ} (hn : n < 8) : (⟨n, hn⟩ : Fin 8) ∉ mid a n := by
  simp only [mid, Finset.mem_filter, Finset.mem_univ, true_and]; omega
theorem mid_self (a : ℕ) : mid a a = ∅ := by
  ext k; simp only [mid, Finset.mem_filter, Finset.mem_univ, true_and, Finset.notMem_empty, iff_false]; omega
theorem mid_all : mid 0 8 = Finset.univ := by decide

theorem bigSep_head {a b : ℕ} (h : a < b) (ha : a < 8) (Φ : Fin 8 → sProp 𝕄) :
    bigSep (mid a b) Φ = iprop(Φ ⟨a, ha⟩ ∗ bigSep (mid (a + 1) b) Φ) := by
  rw [mid_head h ha, bigSep_insert (mid_head_not ha)]; rfl
theorem bigSep_tail {a n : ℕ} (h : a ≤ n) (hn : n < 8) (Φ : Fin 8 → sProp 𝕄) :
    bigSep (mid a (n + 1)) Φ = iprop(Φ ⟨n, hn⟩ ∗ bigSep (mid a n) Φ) := by
  rw [mid_tail h hn, bigSep_insert (mid_tail_not hn)]; rfl
theorem bigSep_none (a : ℕ) (Φ : Fin 8 → sProp 𝕄) : bigSep (mid a a) Φ = iprop(emp) := by
  rw [mid_self]; exact BI.bigSep_empty
theorem bigSep_eight (Φ : Fin 8 → sProp 𝕄) : bigSep Finset.univ Φ = iprop(Φ 0 ∗ bigSep (mid 1 8) Φ) := by
  rw [← mid_all]; exact bigSep_head (by decide) (by decide) Φ

/-- The copies of the slabs from `n` on. -/
def oweY (c : Dev nD) (n : ℕ) : CellTallies nD τ sig Unit := ∑ k ∈ mid n 8, tallyAt (yRC (yDev c) k) () N
/-- The copy of the state, on a device of the first half of the sequence. -/
def oweSt (c : Dev nD) : CellTallies nD τ sig Unit := if c.val < 2 then tallyAt (stRC (xDev c)) () M else 0
/-- All that a device owes at launch. -/
def O₀ (c : Dev nD) : CellTallies nD τ sig Unit :=
  oweY c 0 + oweSt c + tallyAt (barC (yDev c)) () 1 + tallyAt (barC (xDev c)) () 1

theorem oweY_step (c : Dev nD) (n : ℕ) (hn : n < 8) : oweY c n = oweY c (n + 1) + tallyAt (yRC (yDev c) ⟨n, hn⟩) () N := by
  unfold oweY; rw [mid_head hn hn, Finset.sum_insert (mid_head_not hn), add_comm]
theorem oweY_end (c : Dev nD) : oweY c 8 = 0 := by
  unfold oweY; rw [mid_self, Finset.sum_empty]

def L (g : GSem nD τ sig) : Finset Unit := if g.1.2 = .tc then {()} else ∅
def levelOf : Role → ℕ
  | .bar => 1
  | .stR => 2
  | .yR _ => 3
  | _ => 0
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := by
  intro g u hp
  rw [Pi.add_apply, Finsupp.add_apply] at hp
  rcases Nat.add_pos_iff_pos_or_pos.mp hp with hp | hp
  · exact h g u hp
  · exact h' g u hp
theorem Above.at {n k : ℕ} {c : Dev nD} {sm : SemLoc sig} (h : n < levelOf (role sm)) :
    Above n (tallyAt ((c : Thread nD τ), sm) () k) := by
  intro g u hp
  rw [tallyAt_apply] at hp
  split at hp
  · next hg => rw [hg.1, L_tc]; exact ⟨Finset.mem_singleton_self _, h⟩
  · exact absurd hp (Nat.lt_irrefl 0)
theorem above_y (c : Dev nD) (k : Fin 8) {n m : ℕ} (h : n < 3) : Above n (tallyAt (yRC c k) () m) :=
  Above.at (by rw [role_yR]; exact h)
theorem above_oweY (c : Dev nD) (a : ℕ) {n : ℕ} (h : n < 3) : Above n (oweY c a) := by
  unfold oweY
  exact Finset.sum_induction _ (Above n) (fun _ _ => Above.add) (Above.zero n) fun k _ => above_y _ k h
theorem above_oweSt (c : Dev nD) {n : ℕ} (h : n < 2) : Above n (oweSt c) := by
  unfold oweSt
  split
  · exact Above.at (by rw [role_stR]; exact h)
  · exact Above.zero n
theorem above_O₀ (c : Dev nD) : Above 0 (O₀ c) :=
  (((above_oweY c 0 (by decide)).add (above_oweSt c (by decide))).add (Above.at Nat.one_pos)).add (Above.at Nat.one_pos)

theorem mayWait (c : Dev nD) (sm : SemLoc sig) (O : CellTallies nD τ sig Unit) (h : Above (levelOf (role sm)) O) :
    (levAts L lv : sProp 𝕄) ⊢ MayWait (c : Thread nD τ) sm () O :=
  MayOwe.of_cut (L := L) (lev := lv) (levelOf (role sm))
    (fun p hp => by rw [Finset.mem_singleton.mp hp, L_tc]; exact Finset.mem_singleton_self _)
    (fun g u hg => (h g u hg).1)
    (fun p hp => by rw [Finset.mem_singleton.mp hp]; exact le_refl _)
    (fun g u hg => (h g u hg).2)

end Cert.KernelIdeal.Scan
-- ==== Proof.Talk.lean ====
module

public import proofs.«01_k».proof.Proof.Protocol

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ
local notation "Ε" => wpE (defs₀ (F := F)) 𝒱₀

variable (J : Dev nD → Ins F)

/-! ## The records every device may consult -/

/-- The kernel's own semaphores: all of the copies that its body starts. -/
def osem (k : Fin 18) : SemLoc sig := .dma ⟨6 + k.val, by have := k.isLt; show 6 + k.val < 24; omega⟩
theorem osem_inj : Function.Injective osem := by decide
theorem osem_ne_bar : ∀ k : Fin 18, osem k ≠ .reg barS := by decide
theorem osem_stS : osem 0 = .dma kArgs.arg8.sem := by decide
theorem osem_stR : osem 1 = .dma kArgs.arg9.sem := by decide
theorem osem_yS (k : Fin 8) : osem ⟨2 + k.val, by omega⟩ = .dma (sem8 kArgs.arg10 k) := by revert k; decide
theorem osem_yR (k : Fin 8) : osem ⟨10 + k.val, by omega⟩ = .dma (sem8 kArgs.arg11 k) := by revert k; decide

def barEmb : Dev nD ↪ GSem nD τ sig := ⟨fun c => barC c, fun _ _ h => congrArg (fun g : GSem nD τ sig => g.1.1) h⟩
def scEmb : Dev nD × Fin 18 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem sc_mem (c : Dev nD) (k : Fin 18) {sm : SemLoc sig} (h : osem k = sm) :
    ((c : Thread nD τ), sm) ∈ (barCells ∪ scCells : Finset (GSem nD τ sig)) := by
  subst h
  exact Finset.mem_union_right _ (Finset.mem_map_of_mem scEmb (Finset.mem_univ (c, k)))

/-- All the cells' invariants, under the names `K`, and that every barrier is open. -/
def recs (K : GSem nD τ sig → ℕ) : sProp 𝕄 :=
  iprop((bigSep (barCells ∪ scCells) fun g => cellInv ER (rd J) (K g) g) ∗ bigSep barCells fun g => reached ER g 0)
instance recs_persistent (K : GSem nD τ sig → ℕ) : BI.Persistent (recs J K) := by unfold recs; infer_instance

variable (K : GSem nD τ sig → ℕ)

theorem inv_of {g : GSem nD τ sig} (hg : g ∈ (barCells ∪ scCells : Finset (GSem nD τ sig))) :
    recs J K ⊢ cellInv ER (rd J) (K g) g := by
  unfold recs
  iintro ⟨H, -⟩
  have h : (bigSep (barCells ∪ scCells) fun g => (cellInv ER (rd J) (K g) g : sProp 𝕄)) ⊢ cellInv ER (rd J) (K g) g := bigSep_elim hg
  iapply h $$ H
theorem reached_bar (c : Dev nD) : recs J K ⊢ reached ER (barC c) 0 := by
  unfold recs
  iintro ⟨-, H⟩
  have h : (bigSep barCells fun g => (reached ER g 0 : sProp 𝕄)) ⊢ reached ER (barC c) 0 :=
    bigSep_elim (Finset.mem_map_of_mem barEmb (Finset.mem_univ c))
  iapply h $$ H

/-- What a core owes, whatever waits it has made. -/
def owesE (c : Dev nD) (O : CellTallies nD τ sig Unit) : sProp 𝕄 := iprop(∃ W, owes (c : Thread nD τ) O W)

/-! ## Copies -/

variable (c : Dev nD)

/-- What a device needs to send slab `k`, besides the slab. -/
def sendKit (k : Fin 8) : sProp 𝕄 :=
  iprop((∃ f, yPt (yDev c) c k f) ∗ dutyTok ER (ySC c k) 0 true ∗ dutyTok ER (yRC (yDev c) k) 0 true
    ∗ reached ER (ySC c k) 0 ∗ reached ER (yRC (yDev c) k) 0)

theorem land_slab (k : Fin 8) (f g : S1024x4x1024.Idx → Elt F .bf16) :
    ((slabM kArgs c k).view.loc (yDev c : Thread nD τ) ↦[(slabM kArgs c k).view.set]{fullShare}
      ((slabM kArgs c k).view.write (Elt F) f ((slabM kArgs c k).view.read (Elt F) g) Finset.univ) : sProp 𝕄)
      ⊢ yPt (yDev c) c k g := by
  exact Entails.of_eq (pointsTo_congr fun i hi =>
    (congrFun (View.write_read_eq_piecewise (v := (slabM kArgs c k).view) f g Finset.univ) i).trans (Finset.piecewise_eq_of_mem _ _ _ hi))

theorem sendSlab_wp (k : Fin 8) (X : CellTallies nD τ sig Unit) (Q : PUnit → sProp 𝕄) :
    iprop(recs J K ∗ yPt c c k (out J c) ∗ sendKit c k ∗ owesE c (X + tallyAt (yRC (yDev c) k) () N)
        ∗ (cred (tallyAt (ySC c k) () N) -∗ owesE c X -∗ Q ⟨⟩))
      ⊢ wp frame (Ε c none) Set.univ (sendSlab kArgs c k) Q := by
  unfold sendSlab Prog.lift sendKit owesE
  iintro ⟨#HR, Hy, ⟨⟨%f, Hd⟩, Ht1, Ht2, #Hr1, #Hr2⟩, ⟨%W, HO⟩, HQ⟩
  iapply (Rounds.wp_send_pointsTo 𝒱₀ ER (rd J) (c : Thread nD τ) none (c' := (yDev c : Thread nD τ)) (src := slabM kArgs c k) (dst := slabM kArgs c k)
      (sS := .dma (sem8 kArgs.arg10 k)) (sem := .dma (sem8 kArgs.arg11 k)) (q := fullShare) (fs := out J c) (fd := f)
      (κ₁ := K (ySC c k)) (κ₂ := K (yRC (yDev c) k)) (r₁ := 0) (r₂ := 0) (d₁ := true) (d₂ := true)
      (by rw [duties_yS]; exact Finset.mem_singleton_self _) (by rw [duties_yR]; exact Finset.mem_singleton_self _)
      () () N (slab_credit c k) (units_yS J c k true) (units_yR J (yDev c) k true) X rfl (W := W)
      (by rw [pay_yS]; exact BI.Entails.refl _)
      (by rw [pay_yR, yDev_yDev]; exact land_slab c k f (out J c))) $$ [Hy Hd HO Ht1 Ht2]
  · isplitr; · iapply (inv_of J K (sc_mem c _ (osem_yS k))) $$ HR
    isplitr; · iapply (inv_of J K (sc_mem (yDev c) _ (osem_yR k))) $$ HR
    isplitl [Hy]; · iexact Hy
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply HQ $$ Hc
  iexists W; iexact HO

/-! ## Waits -/

theorem close_cell {g : GSem nD τ sig} (κ : ℕ) : iprop(cellInv ER (rd J) κ g ∗ atPos ER g (0 + 1) ∅ 0) ⊢ (|={Set.univ}=> semVal g 0 : sProp 𝕄) :=
  Rounds.cell_close ER (rd J) (Set.mem_univ κ) id (duties_later J g)

/-- The wait for slab `k` sent, when nothing is owed: the slab comes back, and the semaphore is at zero for good. -/
theorem waitSent_wp (k : Fin 8) (Q : PUnit → sProp 𝕄) :
    iprop(recs J K ∗ cred (tallyAt (ySC c k) () N) ∗ atPos ER (ySC c k) 0 ∅ 0 ∗ owesE c 0
        ∗ (yPt c c k (out J c) -∗ semVal (ySC c k) 0 -∗ owesE c 0 -∗ Q ⟨⟩))
      ⊢ wp frame (Ε c none) Set.univ (waitSent kArgs c k) Q := by
  unfold waitSent Prog.lift owesE
  iintro ⟨#HR, Hc, Hat, ⟨%W, HO⟩, HQ⟩
  iapply (Rounds.wp_wait_rest_token 𝒱₀ ER (rd J) (c : Thread nD τ) none (κ := K (ySC c k))
      (wpE_waitDma2_eq (src := slabM kArgs c k) (dst := slabM kArgs c k)
        (hsrc := kArgs.harg5.wordExact_slice rfl _ (chunk c k).words) (hdst := kArgs.harg5.wordExact_slice rfl _ (chunk c k).words) 𝒱₀ (c : Thread nD τ) none Set.univ) (Set.mem_univ _) () (O := 0) (W := W) (R := 0) (m := 0) (T := ∅)
      ((Nat.zero_add _).trans ((slab_credit c k).trans (expect_one J (duties_yS J c k) (units_yS J c k true)).symm))) $$ [Hc HO Hat]
  · isplitr; · iapply (inv_of J K (sc_mem c _ (osem_yS k))) $$ HR
    isplitl [Hc]; · iexact Hc
    isplitl [HO]; · iexact HO
    isplitr; · rw [MayWait_zero]; iempintro
    iexact Hat
  iintro ⟨HO, Hat, -, Hpay⟩
  ihave Hy := (Entails.of_eq (rest_one J (duties_yS J c k) (pay_yS J c k true))) $$ Hpay
  rw [wp_ret]
  imod (close_cell J (K (ySC c k))) $$ [Hat] with Hs
  · isplitr; · iapply (inv_of J K (sc_mem c _ (osem_yS k))) $$ HR
    iexact Hat
  imodintro
  iapply HQ $$ Hy Hs
  iexists _; iexact HO

theorem waitRecv_wp (k : Fin 8) (Q : PUnit → sProp 𝕄) :
    iprop(recs J K ∗ cred (tallyAt (yRC c k) () N) ∗ atPos ER (yRC c k) 0 ∅ 0 ∗ owesE c 0
        ∗ (yPt c (yDev c) k (out J (yDev c)) -∗ semVal (yRC c k) 0 -∗ owesE c 0 -∗ Q ⟨⟩))
      ⊢ wp frame (Ε c none) Set.univ (waitRecv kArgs c k) Q := by
  unfold waitRecv Prog.lift owesE
  iintro ⟨#HR, Hc, Hat, ⟨%W, HO⟩, HQ⟩
  iapply (Rounds.wp_wait_rest_token 𝒱₀ ER (rd J) (c : Thread nD τ) none (κ := K (yRC c k))
      (wpE_waitDma2_eq (src := slabM kArgs c k) (dst := slabM kArgs c k)
        (hsrc := kArgs.harg5.wordExact_slice rfl _ (chunk c k).words) (hdst := kArgs.harg5.wordExact_slice rfl _ (chunk c k).words) 𝒱₀ (c : Thread nD τ) none Set.univ) (Set.mem_univ _) () (O := 0) (W := W) (R := 0) (m := 0) (T := ∅)
      ((Nat.zero_add _).trans ((slab_credit c k).trans (expect_one J (duties_yR J c k) (units_yR J c k true)).symm))) $$ [Hc HO Hat]
  · isplitr; · iapply (inv_of J K (sc_mem c _ (osem_yR k))) $$ HR
    isplitl [Hc]; · iexact Hc
    isplitl [HO]; · iexact HO
    isplitr; · rw [MayWait_zero]; iempintro
    iexact Hat
  iintro ⟨HO, Hat, -, Hpay⟩
  ihave Hy := (Entails.of_eq (rest_one J (duties_yR J c k) (pay_yR J c k true))) $$ Hpay
  rw [wp_ret]
  imod (close_cell J (K (yRC c k))) $$ [Hat] with Hs
  · isplitr; · iapply (inv_of J K (sc_mem c _ (osem_yR k))) $$ HR
    iexact Hat
  imodintro
  iapply HQ $$ Hy Hs
  iexists _; iexact HO

/-- What a device needs to wait for slab `k`, both ways; what it has after. -/
def waitKit (k : Fin 8) : sProp 𝕄 :=
  iprop((cred (tallyAt (ySC c k) () N) ∗ atPos ER (ySC c k) 0 ∅ 0) ∗ cred (tallyAt (yRC c k) () N) ∗ atPos ER (yRC c k) 0 ∅ 0)
def endKit (k : Fin 8) : sProp 𝕄 :=
  iprop((yPt c c k (out J c) ∗ semVal (ySC c k) 0) ∗ yPt c (yDev c) k (out J (yDev c)) ∗ semVal (yRC c k) 0)

theorem waitsFrom_wp (Q : PUnit → sProp 𝕄) : ∀ (n k : ℕ) (hk : k + n ≤ 8),
    iprop(recs J K ∗ bigSep (mid k (k + n)) (waitKit c) ∗ owesE c 0 ∗ (bigSep (mid k (k + n)) (endKit J c) -∗ owesE c 0 -∗ Q ⟨⟩))
      ⊢ wp frame (Ε c none) Set.univ (waitsFrom kArgs c n k hk) Q := by
  intro n
  induction n generalizing Q with
  | zero =>
    intro k hk
    simp only [waitsFrom, Nat.add_zero, bigSep_none]
    show _ ⊢ wp frame (Ε c none) Set.univ (.ret ⟨⟩) Q
    rw [wp_ret]
    iintro ⟨-, -, HO, HQ⟩
    imodintro
    iapply HQ $$ [] HO
    iempintro
  | succ n ih =>
    intro k hk
    have e : k + (n + 1) = k + 1 + n := by omega
    have hlt : k < k + 1 + n := by omega
    have h8 : k < 8 := by omega
    have hih := ih (k := k + 1) (hk := by omega)
    simp only [waitsFrom]
    rw [e, bigSep_head hlt h8, bigSep_head hlt h8, wp_bind]
    unfold waitKit
    iintro ⟨#HR, ⟨⟨⟨Hc1, Ha1⟩, Hc2, Ha2⟩, Hw⟩, HO, HQ⟩
    iapply (waitSent_wp J K c ⟨k, h8⟩ _)
    iframe Hc1 Ha1 HO
    isplitr; · iexact HR
    iintro Hy1 Hs1 HO
    rw [wp_bind]
    iapply (waitRecv_wp J K c ⟨k, h8⟩ _)
    iframe Hc2 Ha2 HO
    isplitr; · iexact HR
    iintro Hy2 Hs2 HO
    iapply (hih Q)
    isplitr; · iexact HR
    isplitl [Hw]; · iexact Hw
    isplitl [HO]; · iexact HO
    iintro He HO
    iapply HQ $$ [Hy1 Hs1 Hy2 Hs2 He] HO
    unfold endKit
    isplitr [He]
    · isplitl [Hy1 Hs1]
      · isplitl [Hy1]; · iexact Hy1
        iexact Hs1
      · isplitl [Hy2]; · iexact Hy2
        iexact Hs2
    · iexact He

/-! ## Sends in a row -/

/-- Between two chunks: chunk `k` is computed, the ones before it are sent but for the first, which is kept apart; `X` is owed besides. -/
def Mid (X : CellTallies nD τ sig Unit) (k : ℕ) (hk : k < 8) : sProp 𝕄 :=
  iprop(yPt c c ⟨k, hk⟩ (own (J c)) ∗ bigSep (mid k 8) (sendKit c) ∗ bigSep (mid (k + 1) 8) (fun j => iprop(∃ f, yPt c c j f))
    ∗ bigSep (mid 1 k) (fun j => cred (tallyAt (ySC c j) () N)) ∗ owesE c (oweY c k + X))

theorem send_next (X : CellTallies nD τ sig Unit) (k : ℕ) (h1 : 1 ≤ k) (hk : k < 8) (Q : PUnit → sProp 𝕄) :
    iprop(recs J K ∗ Mid J c X k hk
        ∗ (bigSep (mid (k + 1) 8) (sendKit c) -∗ bigSep (mid (k + 1) 8) (fun j => iprop(∃ f, yPt c c j f))
          -∗ bigSep (mid 1 (k + 1)) (fun j => cred (tallyAt (ySC c j) () N)) -∗ owesE c (oweY c (k + 1) + X) -∗ Q ⟨⟩))
      ⊢ wp frame (Ε c none) Set.univ (sendSlab kArgs c ⟨k, hk⟩) Q := by
  unfold Mid
  rw [bigSep_head (a := k) (b := 8) hk hk (sendKit c), bigSep_tail (a := 1) h1 hk,
    show oweY c k + X = oweY c (k + 1) + X + tallyAt (yRC (yDev c) ⟨k, hk⟩) () N by rw [oweY_step c k hk]; exact add_right_comm _ _ _]
  iintro ⟨#HR, ⟨Hy, ⟨Hk, Hks⟩, Hf, Hcs, HO⟩, HQ⟩
  iapply (sendSlab_wp J K c ⟨k, hk⟩ (oweY c (k + 1) + X) Q)
  isplitr; · iexact HR
  isplitl [Hy]; · iapply (yPt_congr c c ⟨k, hk⟩ (out_later J c ⟨k, hk⟩ h1)) $$ Hy
  isplitl [Hk]; · iexact Hk
  isplitl [HO]; · iexact HO
  iintro Hc HO
  iapply HQ $$ Hks Hf [Hc Hcs] HO
  isplitl [Hc]; · iexact Hc
  iexact Hcs

theorem sendsFrom_wp (X : CellTallies nD τ sig Unit) (Q : FVec F S4x32x512 .bf16 → sProp 𝕄) : ∀ (n k : ℕ) (h1 : 1 ≤ k) (hk : k + n < 8),
    iprop(recs J K ∗ insPt (J c) c ∗ Mid J c X k (by omega)
        ∗ (insPt (J c) c -∗ Mid J c X (k + n) hk -∗ Q (hAt (J c) (128 * (k + n + 1)))))
      ⊢ wp frame (Ε c none) Set.univ (sendsFrom kArgs c (da (J c)) n k hk (hAt (J c) (128 * (k + 1)))) Q := by
  intro n
  induction n with
  | zero =>
    intro k h1 hk
    simp only [sendsFrom, Nat.add_zero]
    show _ ⊢ wp frame (Ε c none) Set.univ (.ret _) Q
    rw [wp_ret]
    iintro ⟨-, Hi, HM, HQ⟩
    imodintro
    iapply HQ $$ Hi HM
  | succ n ih =>
    intro k h1 hk
    have h8 : k < 8 := by omega
    have h8' : k + 1 < 8 := by omega
    have e : k + (n + 1) = k + 1 + n := by omega
    have hih := ih (k + 1) (by omega) (by omega)
    simp only [sendsFrom]
    rw [wp_bind]
    iintro ⟨#HR, Hi, HM, HQ⟩
    iapply (send_next J K c X k h1 h8 _)
    isplitr; · iexact HR
    isplitl [HM]; · iexact HM
    iintro Hks Hf Hcs HO
    ihave Hf' := (Entails.of_eq (bigSep_head (a := k + 1) (b := 8) h8' h8' (fun j => iprop(∃ f, yPt c c j f)))) $$ Hf
    icases Hf' with ⟨⟨%f, Hy⟩, Hf⟩
    rw [wp_bind]
    iapply (chunkLoop_wp (J c) c ⟨k + 1, h8'⟩ f _)
    isplitl [Hi]; · iexact Hi
    isplitl [Hy]; · iexact Hy
    iintro Hi Hy
    iapply hih
    isplitr; · iexact HR
    isplitl [Hi]; · iexact Hi
    isplitl [Hks Hf Hcs HO Hy]
    · unfold Mid
      isplitl [Hy]; · iexact Hy
      isplitl [Hks]; · iexact Hks
      isplitl [Hf]; · iexact Hf
      isplitl [Hcs]; · iexact Hcs
      iexact HO
    · simp only [e]
      iexact HQ

end Cert.KernelIdeal.Scan
-- ==== Proof.Work.lean ====
module

public import proofs.«01_k».proof.Proof.Talk

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ
local notation "Ε" => wpE (defs₀ (F := F)) 𝒱₀

variable (J : Dev nD → Ins F) (K : GSem nD τ sig → ℕ) (c : Dev nD)

/-! ## The first chunks -/

/-- What is owed from the first send of a later chunk on, besides those: the state in the first half, the first slab in the second. -/
def later : CellTallies nD τ sig Unit :=
  if c.val < 2 then tallyAt (stRC (xDev c)) () M else tallyAt (yRC (yDev c) 0) () N

theorem later_first (hc : c.val < 2) : later c = tallyAt (stRC (xDev c)) () M := if_pos hc
theorem later_second (hc : ¬ c.val < 2) : later c = tallyAt (yRC (yDev c) 0) () N := if_neg hc

theorem owe_first (hc : c.val < 2) : oweY c 0 + oweSt c = (oweY c 1 + later c) + tallyAt (yRC (yDev c) 0) () N := by
  rw [later_first c hc, oweY_step c 0 (by decide), show oweSt c = tallyAt (stRC (xDev c)) () M from if_pos hc]
  exact add_right_comm _ _ _
theorem owe_second (hc : ¬ c.val < 2) : oweY c 0 + oweSt c = oweY c 1 + later c := by
  rw [later_second c hc, oweY_step c 0 (by decide), show oweSt c = 0 from if_neg hc, add_zero]
  rfl

/-- The first slab after the first chunks: on its way in the first half, not yet sent in the second. -/
def head : sProp 𝕄 :=
  if c.val < 2 then cred (tallyAt (ySC c 0) () N) else iprop(yPt c c 0 (own (J c)) ∗ sendKit c 0)

/-- The slabs of the own half, at whatever they hold. -/
abbrev anyY (k : Fin 8) : sProp 𝕄 := iprop(∃ f, yPt c c k f)

theorem first_chunk {A : Type} (jp : PUnit → Prog (TpuEff nD τ sig (Elt F) Λ₀ .tc) A) (Q : A → sProp 𝕄) :
    iprop(recs J K ∗ yPt c c 0 (own (J c)) ∗ sendKit c 0 ∗ owesE c (oweY c 0 + oweSt c)
        ∗ (head J c -∗ owesE c (oweY c 1 + later c) -∗ wp frame (Ε c none) Set.univ (jp ⟨⟩) Q))
      ⊢ wp frame (Ε c none) Set.univ (if _h1 : k0_cond1 c = 1#1 then sendSlab kArgs c 0 >>= jp else jp ⟨⟩) Q := by
  by_cases hc : c.val < 2
  · rw [dif_pos ((cond1_iff c).mpr hc), owe_first c hc, wp_bind]
    unfold head
    rw [if_pos hc]
    iintro ⟨#HR, Hy, Hk, HO, HQ⟩
    iapply (sendSlab_wp J K c 0 (oweY c 1 + later c) _)
    isplitr; · iexact HR
    isplitl [Hy]
    · rw [out_first J c hc]; iexact Hy
    isplitl [Hk]; · iexact Hk
    isplitl [HO]; · iexact HO
    iexact HQ
  · rw [dif_neg (fun h => hc ((cond1_iff c).mp h)), owe_second c hc]
    unfold head
    rw [if_neg hc]
    iintro ⟨-, Hy, Hk, HO, HQ⟩
    iapply HQ $$ [Hy Hk] HO
    isplitl [Hy]; · iexact Hy
    iexact Hk

theorem opening_wp (Q : FVec F S4x32x512 .bf16 → sProp 𝕄) :
    iprop(recs J K ∗ insPt (J c) c ∗ bigSep Finset.univ (anyY c) ∗ bigSep Finset.univ (sendKit c) ∗ owesE c (oweY c 0 + oweSt c)
        ∗ (insPt (J c) c -∗ head J c -∗ Mid J c (later c) 2 (by decide) -∗ Q (hAt (J c) (128 * 3))))
      ⊢ wp frame (Ε c none) Set.univ (opening kArgs c (da (J c))) Q := by
  unfold opening
  rw [wp_bind, bigSep_eight, bigSep_eight, bigSep_head (a := 1) (b := 8) (by decide) (by decide) (anyY c)]
  iintro ⟨#HR, Hi, ⟨⟨%f, Hy⟩, ⟨%f1, Hy1⟩, Hf⟩, ⟨Hk, Hks⟩, HO, HQ⟩
  iapply (chunkLoop_wp (J c) c 0 f _)
  isplitl [Hi]; · iexact Hi
  isplitl [Hy]; · iexact Hy
  iintro Hi Hy
  iapply (first_chunk J K c _ Q)
  isplitr; · iexact HR
  isplitl [Hy]; · iexact Hy
  isplitl [Hk]; · iexact Hk
  isplitl [HO]; · iexact HO
  iintro Hh HO
  rw [wp_bind]
  iapply (chunkLoop_wp (J c) c 1 f1 _)
  isplitl [Hi]; · iexact Hi
  isplitl [Hy1]; · iexact Hy1
  iintro Hi Hy1
  iapply (sendsFrom_wp J K c (later c) Q 1 1 (le_refl 1) _)
  isplitr; · iexact HR
  isplitl [Hi]; · iexact Hi
  isplitl [Hy1 Hks Hf HO]
  · unfold Mid
    isplitl [Hy1]; · iexact Hy1
    isplitl [Hks]; · iexact Hks
    isplitl [Hf]; · iexact Hf
    isplitr
    · rw [bigSep_none]; iempintro
    iexact HO
  iintro Hi HM
  iapply HQ $$ Hi Hh HM

/-! ## The state passed on -/

theorem hM_pts (f : Vec F S4x32x512 .bf16) : ((hM.view.loc (c : Thread nD τ)) ↦[hM.view.set]{fullShare} f : sProp 𝕄) = pt c cc0_scratch0 f := by
  rw [show hM.view.set = Finset.univ from View.set_whole _]
theorem gM_pts (f : Vec F S4x32x512 .bf16) : ((gM.view.loc (c : Thread nD τ)) ↦[gM.view.set]{fullShare} f : sProp 𝕄) = pt c cc0_scratch1 f := by
  rw [show gM.view.set = Finset.univ from View.set_whole _]
theorem landed_state (fd fs : Vec F S4x32x512 .bf16) :
    gM.view.write (Elt F) fd (hM.view.read (Elt F) fs) Finset.univ = fs := by
  show (View.whole cc0_scratch1).write (Elt F) fd ((View.whole cc0_scratch0).read (Elt F) fs) Finset.univ = fs
  rw [View.read_whole]
  exact View.write_whole_univ _ _ _

/-- What a device needs to pass the state on, or to take it in. -/
def stKit : sProp 𝕄 :=
  iprop((atPos ER (stSC c) 0 ∅ 0 ∗ atPos ER (stRC c) 0 ∅ 0)
    ∗ if c.val < 2 then iprop((dutyTok ER (stSC c) 0 true ∗ dutyTok ER (stRC (xDev c)) 0 true ∗ reached ER (stSC c) 0)
        ∗ ((∃ f, pt (xDev c) cc0_scratch1 f) ∗ reached ER (stRC (xDev c)) 0) ∗ ∃ f, pt c cc0_scratch1 f)
      else cred (tallyAt (stRC c) () M))
/-- What it has afterwards. -/
def stEnd : sProp 𝕄 :=
  iprop((∃ f, pt c cc0_scratch0 f) ∗ (∃ f, pt c cc0_scratch1 f) ∗ semVal (stSC c) 0 ∗ semVal (stRC c) 0)

theorem close_unused {g : GSem nD τ sig} (κ : ℕ) (h : (rd J).duties g 0 = ∅) :
    iprop(cellInv ER (rd J) κ g ∗ atPos ER g 0 ∅ 0) ⊢ (|={Set.univ}=> semVal g 0 : sProp 𝕄) :=
  Rounds.cell_close ER (rd J) (Set.mem_univ κ) id fun r _ => by
    rcases Nat.eq_zero_or_pos r with rfl | hr
    · exact h
    · exact duties_later J g r hr

theorem sendState_aux (hc : c.val < 2) (d : Dev nD) (hd : d = xDev c) (Q : PUnit → sProp 𝕄) :
    iprop(recs J K ∗ pt c cc0_scratch0 (lastState (J c)) ∗ stKit c ∗ owesE c (later c) ∗ (stEnd c -∗ owesE c 0 -∗ Q ⟨⟩))
      ⊢ wp frame (Ε c none) Set.univ
        (do
          Prog.lift (.enqueueDma kArgs.arg6 (.remote (Dev.tc d) kArgs.arg7 (.dma kArgs.arg8.sem)) (.dma kArgs.arg9.sem) kArgs.harg6.wordExact kArgs.harg7.wordExact ⟨⟨rfl, Or.inl rfl⟩, trivial⟩)
          Prog.lift (.waitDma2 kArgs.arg8.sem kArgs.arg7 kArgs.arg6 kArgs.harg7.wordExact kArgs.harg6.wordExact)) Q := by
  subst hd
  have hx : ¬ (xDev c).val < 2 := by have := xDev_val c; omega
  rw [wp_bind, later_first c hc]
  unfold Prog.lift stKit owesE
  rw [if_pos hc]
  iintro ⟨#HR, Hh, ⟨⟨HatS, HatR⟩, ⟨Ht1, Ht2, #Hr1⟩, ⟨⟨%f, Hd⟩, #Hr2⟩, Hg⟩, ⟨%W, HO⟩, HQ⟩
  iapply (Rounds.wp_send_pointsTo 𝒱₀ ER (rd J) (c : Thread nD τ) none (c' := (xDev c : Thread nD τ)) (src := hM) (dst := gM)
      (sS := .dma kArgs.arg8.sem) (sem := .dma kArgs.arg9.sem) (q := fullShare) (fs := lastState (J c)) (fd := f)
      (κ₁ := K (stSC c)) (κ₂ := K (stRC (xDev c))) (r₁ := 0) (r₂ := 0) (d₁ := true) (d₂ := true)
      (by rw [duties_stS J c hc]; exact Finset.mem_singleton_self _) (by rw [duties_stR J (xDev c) hx]; exact Finset.mem_singleton_self _)
      () () M state_credit (units_stS J c true) (units_stR J (xDev c) true) 0 (by rw [zero_add]) (W := W)
      (by rw [pay_stS, hM_pts])
      (by rw [pay_stR, xDev_xDev, landed_state, gM_pts])) $$ [Hh Hd HO Ht1 Ht2]
  · isplitr; · iapply (inv_of J K (sc_mem c _ osem_stS)) $$ HR
    isplitr; · iapply (inv_of J K (sc_mem (xDev c) _ osem_stR)) $$ HR
    isplitl [Hh]; · iapply (Entails.of_eq (hM_pts c (lastState (J c))).symm) $$ Hh
    isplitl [Hd]; · iapply (Entails.of_eq (gM_pts (xDev c) f).symm) $$ Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply (Rounds.wp_wait_rest_token 𝒱₀ ER (rd J) (c : Thread nD τ) none (κ := K (stSC c))
      (wpE_waitDma2_eq (src := gM) (dst := hM) (hsrc := kArgs.harg7.wordExact) (hdst := kArgs.harg6.wordExact) 𝒱₀ (c : Thread nD τ) none Set.univ)
      (Set.mem_univ _) () (O := 0) (W := W) (R := 0) (m := 0) (T := ∅)
      ((Nat.zero_add _).trans (expect_one J (duties_stS J c hc) (units_stS J c true)).symm)) $$ [Hc HO HatS]
  · isplitr; · iapply (inv_of J K (sc_mem c _ osem_stS)) $$ HR
    isplitl [Hc]; · iexact Hc
    isplitl [HO]; · iexact HO
    isplitr; · rw [MayWait_zero]; iempintro
    iexact HatS
  iintro ⟨HO, HatS, -, Hpay⟩
  ihave Hh := (Entails.of_eq (rest_one J (duties_stS J c hc) (pay_stS J c true))) $$ Hpay
  rw [wp_ret]
  imod (close_cell J (K (stSC c))) $$ [HatS] with Hs
  · isplitr; · iapply (inv_of J K (sc_mem c _ osem_stS)) $$ HR
    iexact HatS
  imod (close_unused J (K (stRC c)) (no_duties_stR J c hc)) $$ [HatR] with Hs'
  · isplitr; · iapply (inv_of J K (sc_mem c _ osem_stR)) $$ HR
    iexact HatR
  imodintro
  iapply HQ $$ [Hh Hg Hs Hs'] [HO]
  · unfold stEnd
    isplitl [Hh]; · iexists _; iexact Hh
    isplitl [Hg]; · iexact Hg
    isplitl [Hs]; · iexact Hs
    iexact Hs'
  · iexists _; iexact HO

theorem correct_wp (hc : ¬ c.val < 2) (h3 : k0_cond3 c = 1#1) (Q : PUnit → sProp 𝕄) :
    iprop(recs J K ∗ levAts L lv ∗ insPt (J c) c ∗ (∃ f, pt c cc0_scratch0 f) ∗ head J c ∗ stKit c ∗ owesE c (later c)
        ∗ (insPt (J c) c -∗ stEnd c -∗ cred (tallyAt (ySC c 0) () N) -∗ owesE c 0 -∗ Q ⟨⟩))
      ⊢ wp frame (Ε c none) Set.univ (correct kArgs c (da (J c)) h3) Q := by
  unfold correct
  rw [wp_bind, later_second c hc]
  unfold Prog.lift stKit owesE head insPt
  rw [if_neg hc, if_neg hc]
  iintro ⟨#HR, #Hlev, ⟨Hx, Hd, Hp, Hb, Hcc⟩, Hh, ⟨Hy, Hk⟩, ⟨⟨HatS, HatR⟩, Hcr⟩, ⟨%W, HO⟩, HQ⟩
  iapply (Rounds.wp_wait_rest_token 𝒱₀ ER (rd J) (c : Thread nD τ) none (κ := K (stRC c))
      (wpE_waitDma2_eq (src := hM) (dst := gM) (hsrc := kArgs.harg6.wordExact) (hdst := kArgs.harg7.wordExact) 𝒱₀ (c : Thread nD τ) none Set.univ)
      (Set.mem_univ _) () (O := tallyAt (yRC (yDev c) 0) () N) (W := W) (R := 0) (m := 0) (T := ∅)
      ((Nat.zero_add _).trans (expect_one J (duties_stR J c hc) (units_stR J c true)).symm)) $$ [Hcr HO HatR]
  · isplitr; · iapply (inv_of J K (sc_mem c _ osem_stR)) $$ HR
    isplitl [Hcr]; · iexact Hcr
    isplitl [HO]; · iexact HO
    isplitr
    · iapply (mayWait c _ _ (by rw [role_stR]; exact above_y (yDev c) 0 (by decide))) $$ Hlev
    iexact HatR
  iintro ⟨HO, HatR, -, Hpay⟩
  ihave Hg := (Entails.of_eq (rest_one J (duties_stR J c hc) (pay_stR J c true))) $$ Hpay
  rw [wp_ret]
  imod (close_cell J (K (stRC c))) $$ [HatR] with Hs'
  · isplitr; · iapply (inv_of J K (sc_mem c _ osem_stR)) $$ HR
    iexact HatR
  imod (close_unused J (K (stSC c)) (no_duties_stS J c hc)) $$ [HatS] with Hs
  · isplitr; · iapply (inv_of J K (sc_mem c _ osem_stS)) $$ HR
    iexact HatS
  imodintro
  rw [wp_bind]
  iapply (load_in (m := gM) c (Rect.unit (s := S4x32x512) ![0, 0, 0] S4x32x512.size inb_S4x32x512_S4x32x512_0_0_0) (lastState (J (xDev c)))) $$ Hg
  iintro Hg
  rw [wp_ret]
  imodintro
  rw [wp_bind]
  iapply (load_in (m := pM) c (Rect.unit (s := S4x32x512) ![0, 0, 0] S4x32x512.size inb_S4x32x512_S4x32x512_0_0_0) (J c).p) $$ Hp
  iintro Hp
  rw [wp_ret]
  imodintro
  rw [wp_bind]
  iapply (corrLoop_wp (J c) c (lastState (J (xDev c))) h3 _)
  isplitl [Hcc]; · iexact Hcc
  isplitl [Hy]; · iexact Hy
  iintro Hcc Hy %r
  iapply (sendSlab_wp J K c 0 0 Q)
  isplitr; · iexact HR
  isplitl [Hy]
  · rw [out_second J c hc]; iexact Hy
  isplitl [Hk]; · iexact Hk
  isplitl [HO]
  · unfold owesE; rw [zero_add]; iexists _; iexact HO
  iintro Hcr HO
  iapply HQ $$ [Hx Hd Hp Hb Hcc] [Hh Hg Hs Hs'] Hcr [HO]
  · iframe
  · unfold stEnd
    isplitl [Hh]; · iexact Hh
    isplitl [Hg]; · iexists _; iexact Hg
    isplitl [Hs]; · iexact Hs
    iexact Hs'
  · unfold owesE; iexact HO

theorem states_wp {A : Type} (jp : PUnit → Prog (TpuEff nD τ sig (Elt F) Λ₀ .tc) A) (Q : A → sProp 𝕄) :
    iprop(recs J K ∗ levAts L lv ∗ insPt (J c) c ∗ pt c cc0_scratch0 (lastState (J c)) ∗ head J c ∗ stKit c ∗ owesE c (later c)
        ∗ (insPt (J c) c -∗ stEnd c -∗ cred (tallyAt (ySC c 0) () N) -∗ owesE c 0 -∗ wp frame (Ε c none) Set.univ (jp ⟨⟩) Q))
      ⊢ wp frame (Ε c none) Set.univ
        (if h2 : k0_cond2 c = 1#1 then
          (sendState kArgs c h2 >>= fun _ => if h3 : k0_cond3 c = 1#1 then correct kArgs c (da (J c)) h3 >>= jp else jp ⟨⟩)
        else if h3 : k0_cond3 c = 1#1 then correct kArgs c (da (J c)) h3 >>= jp else jp ⟨⟩) Q := by
  by_cases hc : c.val < 2
  · have h2 := (cond2_iff c).mpr hc
    rw [dif_pos h2, wp_bind]
    unfold head
    rw [if_pos hc]
    iintro ⟨#HR, -, Hi, Hh, Hcr, Hk, HO, HQ⟩
    iapply (sendState_aux J K c hc _ (dev11_eq c h2) _)
    isplitr; · iexact HR
    isplitl [Hh]; · iexact Hh
    isplitl [Hk]; · iexact Hk
    isplitl [HO]; · iexact HO
    iintro He HO
    rw [dif_neg (fun h => (cond3_iff c).mp h hc)]
    iapply HQ $$ Hi He Hcr HO
  · have h3 := (cond3_iff c).mpr hc
    rw [dif_neg (fun h => hc ((cond2_iff c).mp h)), dif_pos h3, wp_bind]
    iintro ⟨#HR, #Hlev, Hi, Hh, Hhd, Hk, HO, HQ⟩
    iapply (correct_wp J K c hc h3 _)
    isplitr; · iexact HR
    isplitr; · iexact Hlev
    isplitl [Hi]; · iexact Hi
    isplitl [Hh]; · iexists _; iexact Hh
    isplitl [Hhd]; · iexact Hhd
    isplitl [Hk]; · iexact Hk
    isplitl [HO]; · iexact HO
    iexact HQ

/-! ## The whole -/

/-- The last state, rounded, as the store leaves it. -/
theorem stored_state (f : Vec F S4x32x512 .bf16) (w : Vec F S4x32x512 .bf16) :
    (hM.access (Rect.unit (s := S4x32x512) ![0, 0, 0] S4x32x512.size inb_S4x32x512_S4x32x512_0_0_0)).write (Elt F) f w Finset.univ = w :=
  Memref.write_access_unit_zero_univ (Elt F) cc0_scratch0 (by funext a; fin_cases a <;> rfl) inb_S4x32x512_S4x32x512_0_0_0 f w

theorem stored (f w : Vec F S4x32x512 .bf16) :
    ((hM.access (Rect.unit (s := S4x32x512) ![0, 0, 0] S4x32x512.size inb_S4x32x512_S4x32x512_0_0_0)).loc (c : Thread nD τ) ↦{fullShare}
      ((hM.access (Rect.unit (s := S4x32x512) ![0, 0, 0] S4x32x512.size inb_S4x32x512_S4x32x512_0_0_0)).write (Elt F) f w Finset.univ) : sProp 𝕄)
      ⊢ pt c cc0_scratch0 w :=
  Entails.of_eq (congrArg (pt c cc0_scratch0) (stored_state f w))

/-- The positions and credits for the waits on slab `k`. -/
def rKit (k : Fin 8) : sProp 𝕄 :=
  iprop(atPos ER (ySC c k) 0 ∅ 0 ∗ cred (tallyAt (yRC c k) () N) ∗ atPos ER (yRC c k) 0 ∅ 0)

theorem waitKit_eq : (bigSep (mid 1 8) (waitKit c) : sProp 𝕄)
    = iprop(bigSep (mid 1 8) (fun k => cred (tallyAt (ySC c k) () N)) ∗ bigSep (mid 1 8) (rKit c)) := by
  rw [← bigSep_sep']
  refine bigSep_congr fun k _ => ?_
  unfold waitKit rKit
  exact equiv_iff.mp ⟨BI.sep_assoc, BI.sep_assoc'⟩

theorem closing_wp {β : Type} (r : β) (Q : β → sProp 𝕄) :
    iprop(recs J K ∗ levAts L lv ∗ insPt (J c) c ∗ (∃ f, pt c cc0_scratch0 f) ∗ head J c ∗ Mid J c (later c) 7 (by decide) ∗ stKit c
        ∗ atPos ER (ySC c 0) 0 ∅ 0
        ∗ (insPt (J c) c -∗ stEnd c -∗ (yPt c c 0 (out J c) ∗ semVal (ySC c 0) 0)
          -∗ bigSep (mid 1 8) (fun k => cred (tallyAt (ySC c k) () N)) -∗ owesE c 0 -∗ Q r))
      ⊢ wp frame (Ε c none) Set.univ (closing kArgs r c (da (J c)) (hAt (J c) (128 * 8))) Q := by
  unfold closing
  rw [wp_bind]
  iintro ⟨#HR, #Hlev, Hi, ⟨%f, Hh⟩, Hhd, HM, Hk, Hat, HQ⟩
  iapply (send_next J K c (later c) 7 (by decide) (by decide) _)
  isplitr; · iexact HR
  isplitl [HM]; · iexact HM
  iintro - - Hcs HO
  rw [show oweY c (7 + 1) + later c = later c by rw [show oweY c (7 + 1) = 0 from oweY_end c, zero_add]]
  rw [wp_bind]
  unfold Prog.lift
  iapply (load_in (m := hM) c (Rect.unit (s := S4x32x512) ![0, 0, 0] S4x32x512.size inb_S4x32x512_S4x32x512_0_0_0) f) $$ Hh
  iintro Hh
  rw [wp_ret]
  imodintro
  rw [wp_bind]
  iapply (wp_store (m := hM) (r := Rect.unit (s := S4x32x512) ![0, 0, 0] S4x32x512.size inb_S4x32x512_S4x32x512_0_0_0) 𝒱₀ (c : Thread nD τ) none Set.univ (S := Finset.univ) (f := f) (Finset.subset_univ _)) $$ Hh
  iintro Hh
  rw [wp_ret]
  imodintro
  iapply (states_wp J K c _ Q)
  isplitr; · iexact HR
  isplitr; · iexact Hlev
  isplitl [Hi]; · iexact Hi
  isplitl [Hh]; · rw [show lastState (J c) = k0_pay699 (hAt (J c) (128 * 8)) from rfl]; iapply (stored c f _) $$ Hh
  isplitl [Hhd]; · iexact Hhd
  isplitl [Hk]; · iexact Hk
  isplitl [HO]; · iexact HO
  iintro Hi He Hcr HO
  rw [wp_bind]
  iapply (waitSent_wp J K c 0 _)
  isplitr; · iexact HR
  isplitl [Hcr]; · iexact Hcr
  isplitl [Hat]; · iexact Hat
  isplitl [HO]; · iexact HO
  iintro Hy Hs HO
  rw [show (pure r : Prog (TpuEff nD τ sig (Elt F) Λ₀ .tc) β) = .ret r from rfl, wp_ret]
  imodintro
  iapply HQ $$ Hi He [Hy Hs] Hcs HO
  isplitl [Hy]; · iexact Hy
  iexact Hs

/-- What the work takes. -/
def workPre : sProp 𝕄 :=
  iprop(insPt (J c) c ∗ bigSep Finset.univ (anyY c) ∗ bigSep Finset.univ (sendKit c) ∗ bigSep Finset.univ (rKit c)
    ∗ (∃ f, pt c cc0_scratch0 f) ∗ stKit c ∗ owesE c (oweY c 0 + oweSt c))
/-- What it leaves. -/
def workPost : sProp 𝕄 :=
  iprop(insPt (J c) c ∗ stEnd c ∗ bigSep Finset.univ (endKit J c) ∗ owesE c 0)

theorem work_wp (Q : PUnit → sProp 𝕄) :
    iprop(recs J K ∗ levAts L lv ∗ workPre J c ∗ (workPost J c -∗ Q ⟨⟩)) ⊢ wp frame (Ε c none) Set.univ (work kArgs c) Q := by
  unfold work workPre workPost Prog.lift
  rw [wp_bind, bigSep_eight (rKit c), bigSep_eight (endKit J c)]
  unfold insPt
  iintro ⟨#HR, #Hlev, ⟨⟨Hx, Hd, Hp, Hb, Hcc⟩, Hys, Hks, ⟨Hr, Hrs⟩, Hh, Hst, HO⟩, HQ⟩
  iapply (load_in (m := dM) c (Rect.unit (s := S32x512) ![0, 0] S32x512.size inb_S32x512_S32x512_0_0) (J c).dA) $$ Hd
  iintro Hd
  rw [wp_ret]
  imodintro
  rw [wp_bind]
  iapply (opening_wp J K c _)
  isplitr; · iexact HR
  isplitl [Hx Hd Hp Hb Hcc]; · unfold insPt; iframe
  isplitl [Hys]; · iexact Hys
  isplitl [Hks]; · iexact Hks
  isplitl [HO]; · iexact HO
  iintro Hi Hhd HM
  rw [wp_bind]
  iapply (sendsFrom_wp J K c (later c) _ 2 2 (by decide) _)
  isplitr; · iexact HR
  isplitl [Hi]; · iexact Hi
  isplitl [HM]; · iexact HM
  iintro Hi HM
  rw [wp_bind]
  iapply (sendsFrom_wp J K c (later c) _ 3 4 (by decide) _)
  isplitr; · iexact HR
  isplitl [Hi]; · iexact Hi
  isplitl [HM]; · iexact HM
  iintro Hi HM
  rw [wp_bind]
  unfold rKit
  icases Hr with ⟨Hat, Hrc, Hrat⟩
  iapply (closing_wp J K c (⟨⟩ : PUnit) _)
  isplitr; · iexact HR
  isplitr; · iexact Hlev
  isplitl [Hi]; · iexact Hi
  isplitl [Hh]; · iexact Hh
  isplitl [Hhd]; · iexact Hhd
  isplitl [HM]; · iexact HM
  isplitl [Hst]; · iexact Hst
  isplitl [Hat]; · iexact Hat
  iintro Hi He Hy0 Hcs HO
  rw [wp_bind]
  iapply (waitRecv_wp J K c 0 _)
  isplitr; · iexact HR
  isplitl [Hrc]; · iexact Hrc
  isplitl [Hrat]; · iexact Hrat
  isplitl [HO]; · iexact HO
  iintro Hz Hs HO
  iapply (waitsFrom_wp J K c Q 7 1 _)
  isplitr; · iexact HR
  isplitl [Hcs Hrs]
  · iapply (Entails.of_eq (waitKit_eq c).symm)
    isplitl [Hcs]; · iexact Hcs
    iexact Hrs
  isplitl [HO]; · iexact HO
  iintro Hes HO
  iapply HQ
  isplitl [Hi]; · unfold insPt; iexact Hi
  isplitl [He]; · iexact He
  isplitr [HO]
  · isplitr [Hes]
    · unfold endKit
      isplitl [Hy0]; · iexact Hy0
      isplitl [Hz]; · iexact Hz
      iexact Hs
    iexact Hes
  iexact HO

end Cert.KernelIdeal.Scan
-- ==== Proof.Run.lean ====
module

public import proofs.«01_k».proof.Proof.Work

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ
local notation "Ε" => wpE (defs₀ (F := F)) 𝒱₀

variable (J : Dev nD → Ins F) (K : GSem nD τ sig → ℕ) (c : Dev nD)

/-! ## The array of results, cut into slabs -/

/-- The slab `k` of the own half, or of the other one. -/
def part (c : Dev nD) (t : Fin 2 × Fin 8) : Finset S1024x4x1024.Idx := slab (if t.1 = 0 then c else yDev c) t.2

theorem part_disjoint (t t' : Fin 2 × Fin 8) (h : t ≠ t') : Disjoint (part c t) (part c t') := by
  rw [Finset.disjoint_left]
  intro i hi hi'
  obtain ⟨b, k⟩ := t
  obtain ⟨b', k'⟩ := t'
  have h1 := (mem_slab _ _ _).mp hi
  have h2 := (mem_slab _ _ _).mp hi'
  have hy := yDev_val c
  have hk : k.val = k'.val := by have := h1.1; have := h2.1; dsimp only at *; omega
  have hb : b = b' := by
    fin_cases b <;> fin_cases b' <;> first | rfl | (exfalso; simp at h1 h2; omega)
  exact h (by rw [hb, Fin.ext hk])

theorem part_cover : (Finset.univ : Finset (Fin 2 × Fin 8)).biUnion (part c) = Finset.univ := by
  refine Finset.eq_univ_iff_forall.mpr fun i => ?_
  have h0 : (i 0).val < 1024 := (i 0).isLt
  have h2 : (i 2).val < 1024 := (i 2).isLt
  have hy := yDev_val c
  have hc := c.isLt
  by_cases hb : (i 2).val / 512 = c.val % 2
  · refine Finset.mem_biUnion.mpr ⟨(0, ⟨(i 0).val / 128, by omega⟩), Finset.mem_univ _, (mem_slab _ _ _).mpr ?_⟩
    rw [if_pos rfl]
    refine ⟨⟨?_, ?_⟩, ?_, ?_⟩ <;> dsimp only <;> omega
  · refine Finset.mem_biUnion.mpr ⟨(1, ⟨(i 0).val / 128, by omega⟩), Finset.mem_univ _, (mem_slab _ _ _).mpr ?_⟩
    rw [if_neg (by decide : ¬ (1 : Fin 2) = 0)]
    refine ⟨⟨?_, ?_⟩, ?_, ?_⟩ <;> dsimp only <;> omega

theorem pt_parts (f : S1024x4x1024.Idx → Elt F .bf16) :
    (pt c cc0_stg5_0 f : sProp 𝕄) = iprop(bigSep Finset.univ (fun k => yPt c c k f) ∗ bigSep Finset.univ (fun k => yPt c (yDev c) k f)) := by
  have h := pointsTo_biUnion (Ix := Unit) (Name := ℕ) (U := UU) (Lvl := ℕ) (ℓ := (c : Thread nD τ).loc cc0_stg5_0) (q := fullShare) (f := f)
    (Finset.univ : Finset (Fin 2 × Fin 8)) (part c) fun t _ t' _ h => part_disjoint c t t' h
  rw [part_cover] at h
  refine h.trans ?_
  rw [bigSep_univ_prod]
  exact BI.bigSep_fin_two _

/-- What the array of results holds in the end. -/
def final : Vec F S1024x4x1024 .bf16 := fun i => if (i 2).val / 512 = c.val % 2 then out J c i else out J (yDev c) i

theorem final_own (k : Fin 8) : ∀ i ∈ slab c k, out J c i = final J c i := fun i hi => by
  have h := (mem_slab c k i).mp hi
  unfold final; rw [if_pos (by omega)]
theorem final_other (k : Fin 8) : ∀ i ∈ slab (yDev c) k, out J (yDev c) i = final J c i := fun i hi => by
  have h := (mem_slab (yDev c) k i).mp hi
  have hy := yDev_val c
  unfold final; rw [if_neg (by omega)]

theorem endKits : bigSep Finset.univ (endKit J c)
    ⊢ iprop(pt c cc0_stg5_0 (final J c) ∗ bigSep Finset.univ (fun k => semVal (ySC c k) 0) ∗ bigSep Finset.univ (fun k => semVal (yRC c k) 0) : sProp 𝕄) := by
  have h1 : bigSep Finset.univ (fun k => yPt c c k (out J c)) ⊢ (bigSep Finset.univ (fun k => yPt c c k (final J c)) : sProp 𝕄) :=
    bigSep_mono fun k _ => yPt_congr c c k (final_own J c k)
  have h2 : bigSep Finset.univ (fun k => yPt c (yDev c) k (out J (yDev c))) ⊢ (bigSep Finset.univ (fun k => yPt c (yDev c) k (final J c)) : sProp 𝕄) :=
    bigSep_mono fun k _ => yPt_congr c (yDev c) k (final_other J c k)
  rw [pt_parts]
  unfold endKit
  rw [bigSep_sep', bigSep_sep', bigSep_sep']
  iintro ⟨⟨Hy, Hs⟩, Hz, Hs'⟩
  isplitl [Hy Hz]
  · isplitl [Hy]; · iapply h1 $$ Hy
    iapply h2 $$ Hz
  isplitl [Hs]; · iexact Hs
  iexact Hs'

/-! ## What a device has at the start -/

/-- The tokens of the duties it pays. -/
def duesOf : sProp 𝕄 :=
  iprop(dutyTok ER (barC (xDev c)) 0 true ∗ dutyTok ER (barC (yDev c)) 0 false
    ∗ dutyTok ER (stSC c) 0 true ∗ dutyTok ER (stRC (xDev c)) 0 true
    ∗ bigSep Finset.univ (fun k => dutyTok ER (ySC c k) 0 true) ∗ bigSep Finset.univ (fun k => dutyTok ER (yRC (yDev c) k) 0 true))
/-- The credits of the waits on what others pay. -/
def credsOf : sProp 𝕄 :=
  iprop(cred (tallyAt (barC c) () 2) ∗ (if c.val < 2 then iprop(emp) else cred (tallyAt (stRC c) () M))
    ∗ bigSep Finset.univ (fun k => cred (tallyAt (yRC c k) () N)))
/-- Its own cells, opened. -/
def openedOf : sProp 𝕄 :=
  iprop((atPos ER (stSC c) 0 ∅ 0 ∗ reached ER (stSC c) 0) ∗ (atPos ER (stRC c) 0 ∅ 0 ∗ reached ER (stRC c) 0)
    ∗ bigSep Finset.univ (fun k => iprop(atPos ER (ySC c k) 0 ∅ 0 ∗ reached ER (ySC c k) 0))
    ∗ bigSep Finset.univ (fun k => iprop(atPos ER (yRC c k) 0 ∅ 0 ∗ reached ER (yRC c k) 0)))

/-- The landing buffer, when it stays at home. -/
def kept : sProp 𝕄 := if c.val < 2 then iprop(∃ f, pt c cc0_scratch1 f) else iprop(emp)

theorem pay_x : iprop((∃ f, pt c cc0_scratch1 f) ∗ reached ER (stRC c) 0) ⊢ iprop(barX (xDev c) ∗ kept c : sProp 𝕄) := by
  have hx := xDev_val c
  have h4 : c.val < 4 := c.isLt
  unfold barX kept
  rw [xDev_xDev]
  by_cases hc : c.val < 2
  · rw [if_neg (by omega), if_pos hc]
    iintro ⟨Hg, -⟩
    isplitr; · iempintro
    iexact Hg
  · rw [if_pos (by omega), if_neg hc]
    iintro ⟨Hg, Hr⟩
    isplitl [Hg Hr]
    · isplitl [Hg]; · iexact Hg
      iexact Hr
    iempintro

theorem pay_y : iprop(bigSep Finset.univ (fun k => iprop(∃ f, yPt c (yDev c) k f)) ∗ bigSep Finset.univ (fun k => reached ER (yRC c k) 0))
    ⊢ (barY (yDev c) : sProp 𝕄) := by
  unfold barY
  rw [yDev_yDev, bigSep_sep']

theorem stKit_intro : iprop((atPos ER (stSC c) 0 ∅ 0 ∗ reached ER (stSC c) 0) ∗ atPos ER (stRC c) 0 ∅ 0
      ∗ dutyTok ER (stSC c) 0 true ∗ dutyTok ER (stRC (xDev c)) 0 true ∗ (if c.val < 2 then iprop(emp) else cred (tallyAt (stRC c) () M)) ∗ barX c ∗ kept c)
    ⊢ (stKit c : sProp 𝕄) := by
  unfold stKit barX kept
  by_cases hc : c.val < 2
  · rw [if_pos hc, if_pos hc, if_pos hc, if_pos hc]
    iintro ⟨⟨Ha, Hr⟩, Ha', Ht, Ht', -, Hb, Hg⟩
    isplitl [Ha Ha']
    · isplitl [Ha]; · iexact Ha
      iexact Ha'
    isplitl [Ht Ht' Hr]
    · isplitl [Ht]; · iexact Ht
      isplitl [Ht']; · iexact Ht'
      iexact Hr
    isplitl [Hb]; · iexact Hb
    iexact Hg
  · rw [if_neg hc, if_neg hc, if_neg hc, if_neg hc]
    iintro ⟨⟨Ha, -⟩, Ha', -, -, Hc, -, -⟩
    isplitl [Ha Ha']
    · isplitl [Ha]; · iexact Ha
      iexact Ha'
    iexact Hc

theorem sendKits_intro : iprop(barY c ∗ bigSep Finset.univ (fun k => reached ER (ySC c k) 0)
      ∗ bigSep Finset.univ (fun k => dutyTok ER (ySC c k) 0 true) ∗ bigSep Finset.univ (fun k => dutyTok ER (yRC (yDev c) k) 0 true))
    ⊢ (bigSep Finset.univ (sendKit c) : sProp 𝕄) := by
  unfold barY sendKit
  rw [bigSep_sep', bigSep_sep', bigSep_sep', bigSep_sep', bigSep_sep']
  iintro ⟨⟨H1, H2⟩, H3, H4, H5⟩
  isplitl [H1]; · iexact H1
  isplitl [H4]; · iexact H4
  isplitl [H5]; · iexact H5
  isplitl [H3]; · iexact H3
  iexact H2

theorem rKits_intro : iprop(bigSep Finset.univ (fun k => atPos ER (ySC c k) 0 ∅ 0) ∗ bigSep Finset.univ (fun k => cred (tallyAt (yRC c k) () N))
      ∗ bigSep Finset.univ (fun k => atPos ER (yRC c k) 0 ∅ 0))
    ⊢ (bigSep Finset.univ (rKit c) : sProp 𝕄) := by
  unfold rKit
  rw [bigSep_sep', bigSep_sep']

theorem any_parts : iprop(∃ f, pt c cc0_stg5_0 f)
    ⊢ iprop(bigSep Finset.univ (anyY c) ∗ bigSep Finset.univ (fun k => iprop(∃ f, yPt c (yDev c) k f)) : sProp 𝕄) := by
  iintro ⟨%f, H⟩
  have h1 : bigSep Finset.univ (fun k => yPt c c k f) ⊢ (bigSep Finset.univ (anyY c) : sProp 𝕄) :=
    bigSep_mono fun k _ => show (yPt c c k f : sProp 𝕄) ⊢ (iprop(∃ f, yPt c c k f) : sProp 𝕄) from by iintro H; iexists f; iexact H
  have h2 : bigSep Finset.univ (fun k => yPt c (yDev c) k f) ⊢ (bigSep Finset.univ (fun k => iprop(∃ f, yPt c (yDev c) k f)) : sProp 𝕄) :=
    bigSep_mono fun k _ => show (yPt c (yDev c) k f : sProp 𝕄) ⊢ (iprop(∃ f, yPt c (yDev c) k f) : sProp 𝕄) from by iintro H; iexists f; iexact H
  ihave H' := (Entails.of_eq (pt_parts c f)) $$ H
  icases H' with ⟨Ha, Hb⟩
  isplitl [Ha]; · iapply h1 $$ Ha
  iapply h2 $$ Hb

/-! ## The body -/

def bodyPre : sProp 𝕄 :=
  iprop(insPt (J c) c ∗ (∃ f, pt c cc0_stg5_0 f) ∗ (∃ f, pt c cc0_scratch0 f) ∗ (∃ f, pt c cc0_scratch1 f)
    ∗ atPos ER (barC c) 0 ∅ 0 ∗ openedOf c ∗ duesOf c ∗ credsOf c ∗ owesE c (O₀ c))
def bodyPost : sProp 𝕄 :=
  iprop(insPt (J c) c ∗ pt c cc0_stg5_0 (final J c) ∗ stEnd c
    ∗ bigSep Finset.univ (fun k => semVal (ySC c k) 0) ∗ bigSep Finset.univ (fun k => semVal (yRC c k) 0)
    ∗ semVal (barC c) 0 ∗ owesE c 0)

theorem signal_eq (d : Dev nD) : (semSignalWord d barS 1#32 : Prog (TpuEff nD τ sig (Elt F) Λ₀ .tc) PUnit) = .op (.semSignal (d.tc) barS ((1 : ℕ) : ℤ)) .ret := rfl
theorem wait_eq : (semWaitWord barS 2#32 : Prog (TpuEff nD τ sig (Elt F) Λ₀ .tc) PUnit) = .op (.semWait barS ((2 : ℕ) : ℤ)) .ret := rfl

theorem body_wp (Q : PUnit → sProp 𝕄) :
    iprop(recs J K ∗ levAts L lv ∗ bodyPre J c ∗ (bodyPost J c -∗ Q ⟨⟩)) ⊢ wp frame (Ε c none) Set.univ (body kArgs) Q := by
  unfold body bodyPre bodyPost openedOf duesOf credsOf owesE O₀ Prog.lift
  simp only [signal_eq, wait_eq, Prog.bind_op, Prog.bind_ret, wp_deviceId]
  rw [bigSep_sep', bigSep_sep']
  iintro ⟨#HR, #Hlev, ⟨Hi, Hy, Hh, Hg, HatB, ⟨⟨HaS, #HrS⟩, ⟨HaR, #HrR⟩, ⟨HayS, #HryS⟩, HayR, #HryR⟩,
    ⟨HtX, HtY, HtS, HtR, HtyS, HtyR⟩, ⟨HcB, HcR, HcyR⟩, %W, HO⟩, HQ⟩
  ihave Hyy := (any_parts c) $$ Hy
  icases Hyy with ⟨Hown, Hoth⟩
  ihave Hpx := (pay_x c) $$ [Hg]
  · isplitl [Hg]; · iexact Hg
    iexact HrR
  icases Hpx with ⟨HpX, Hkept⟩
  ihave HpY := (pay_y c) $$ [Hoth]
  · isplitl [Hoth]; · iexact Hoth
    iexact HryR
  iapply (Rounds.wp_signal 𝒱₀ ER (rd J) (c : Thread nD τ) none (dst := (xDev c : Thread nD τ)) (sem := barS) (r := 0) (d := true) (κ := K (barC (xDev c)))
      (by rw [duties_bar]; exact Finset.mem_univ _) (units_bar J (xDev c) true) () (oweY c 0 + oweSt c + tallyAt (barC (yDev c)) () 1) rfl) $$ [HO HtX HpX]
  · isplitr; · iapply (inv_of J K (bar_mem (xDev c))) $$ HR
    isplitl [HO]; · iexact HO
    isplitl [HtX]; · iexact HtX
    isplitl [HpX]; · rw [pay_barX]; iexact HpX
    iapply (reached_bar J K (xDev c)) $$ HR
  iintro HO
  iapply (Rounds.wp_signal 𝒱₀ ER (rd J) (c : Thread nD τ) none (dst := (yDev c : Thread nD τ)) (sem := barS) (r := 0) (d := false) (κ := K (barC (yDev c)))
      (by rw [duties_bar]; exact Finset.mem_univ _) (units_bar J (yDev c) false) () (oweY c 0 + oweSt c) rfl) $$ [HO HtY HpY]
  · isplitr; · iapply (inv_of J K (bar_mem (yDev c))) $$ HR
    isplitl [HO]; · iexact HO
    isplitl [HtY]; · iexact HtY
    isplitl [HpY]; · rw [pay_barY]; iexact HpY
    iapply (reached_bar J K (yDev c)) $$ HR
  iintro HO
  iapply (Rounds.wp_wait_rest_token 𝒱₀ ER (rd J) (c : Thread nD τ) none (κ := K (barC c))
      (wpE_semWait_eq 𝒱₀ (c : Thread nD τ) none Set.univ) (Set.mem_univ _) () (O := oweY c 0 + oweSt c) (W := W) (R := 0) (m := 0) (T := ∅)
      ((Nat.zero_add _).trans (expect_bar J c).symm)) $$ [HcB HO HatB]
  · isplitr; · iapply (inv_of J K (bar_mem c)) $$ HR
    isplitl [HcB]; · iexact HcB
    isplitl [HO]; · iexact HO
    isplitr
    · iapply (mayWait c _ _ (Above.add (above_oweY c 0 (by decide)) (above_oweSt c (by decide)))) $$ Hlev
    iexact HatB
  iintro ⟨HO, HatB, -, Hpay⟩
  ihave Hp := (Entails.of_eq (rest_bar J c)) $$ Hpay
  icases Hp with ⟨HbY, HbX⟩
  ihave Hks := (sendKits_intro c) $$ [HbY HtyS HtyR]
  · isplitl [HbY]; · iexact HbY
    isplitr; · iexact HryS
    isplitl [HtyS]; · iexact HtyS
    iexact HtyR
  ihave Hst := (stKit_intro c) $$ [HaS HaR HtS HtR HcR HbX Hkept]
  · isplitl [HaS]
    · isplitl [HaS]; · iexact HaS
      iexact HrS
    isplitl [HaR]; · iexact HaR
    isplitl [HtS]; · iexact HtS
    isplitl [HtR]; · iexact HtR
    isplitl [HcR]; · iexact HcR
    isplitl [HbX]; · iexact HbX
    iexact Hkept
  ihave Hrs := (rKits_intro c) $$ [HayS HcyR HayR]
  · isplitl [HayS]; · iexact HayS
    isplitl [HcyR]; · iexact HcyR
    iexact HayR
  rw [← fupd_wp_eq]
  imod (close_cell J (K (barC c))) $$ [HatB] with HsB
  · isplitr; · iapply (inv_of J K (bar_mem c)) $$ HR
    iexact HatB
  imodintro
  iapply (work_wp J K c Q)
  isplitr; · iexact HR
  isplitr; · iexact Hlev
  isplitr [HQ HsB]
  · unfold workPre owesE
    isplitl [Hi]; · iexact Hi
    isplitl [Hown]; · iexact Hown
    isplitl [Hks]; · iexact Hks
    isplitl [Hrs]; · iexact Hrs
    isplitl [Hh]; · iexact Hh
    isplitl [Hst]; · iexact Hst
    iexists _; iexact HO
  unfold workPost
  iintro ⟨Hi, He, Hks, HO⟩
  ihave Hk := (endKits J c) $$ Hks
  icases Hk with ⟨Hy, Hs, Hs'⟩
  iapply HQ
  isplitl [Hi]; · iexact Hi
  isplitl [Hy]; · iexact Hy
  isplitl [He]; · iexact He
  isplitl [Hs]; · iexact Hs
  isplitl [Hs']; · iexact Hs'
  isplitl [HsB]; · iexact HsB
  unfold owesE
  iexact HO

end Cert.KernelIdeal.Scan
-- ==== Proof.BodyEq.lean ====
module

public import proofs.«01_k».proof.Proof.Body

@[expose] public section

noncomputable section

namespace Cert.KernelIdeal.Scan

open Idealize.ShloMosaic Idealize.SL.Sem Cert.KernelIdeal.Gen

variable {F : FTy → Type} [FloatOps F] (a : Args)

set_option maxRecDepth 65536 in
set_option maxHeartbeats 8000000 in
theorem t1_body_eq (d0 : Dev nD) (da : FVec F S1x32x512 .bf16) (v2 v6 v21 v22 v23 : BitVec 32) :
    k0_t1_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v21 v22 v23 = fun t h =>
      trip a ((chunk d0 0).offX t) ((chunk d0 0).hX t) ((chunk d0 0).offB t) ((chunk d0 0).hB t) ((chunk d0 0).rows t) da h := rfl

set_option maxRecDepth 65536 in
set_option maxHeartbeats 8000000 in
theorem t2_body_eq (d0 : Dev nD) (da : FVec F S1x32x512 .bf16) (v2 v6 v21 v22 v23 : BitVec 32) :
    k0_t2_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v21 v22 v23 = fun t h =>
      trip a ((chunk d0 1).offX t) ((chunk d0 1).hX t) ((chunk d0 1).offB t) ((chunk d0 1).hB t) ((chunk d0 1).rows t) da h := rfl

set_option maxRecDepth 65536 in
set_option maxHeartbeats 8000000 in
theorem t3_body_eq (d0 : Dev nD) (da : FVec F S1x32x512 .bf16) (v2 v6 v21 v22 v23 : BitVec 32) :
    k0_t3_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v21 v22 v23 = fun t h =>
      trip a ((chunk d0 2).offX t) ((chunk d0 2).hX t) ((chunk d0 2).offB t) ((chunk d0 2).hB t) ((chunk d0 2).rows t) da h := rfl

set_option maxRecDepth 65536 in
set_option maxHeartbeats 8000000 in
theorem t4_body_eq (d0 : Dev nD) (da : FVec F S1x32x512 .bf16) (v2 v6 v24 v25 : BitVec 32) (v48 : FVec F S4x32x512 .bf16) :
    k0_t4_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v24 v25 v48 = fun t h =>
      trip a ((chunk d0 3).offX t) ((chunk d0 3).hX t) ((chunk d0 3).offB t) ((chunk d0 3).hB t) ((chunk d0 3).rows t) da h := rfl

set_option maxRecDepth 65536 in
set_option maxHeartbeats 8000000 in
theorem t5_body_eq (d0 : Dev nD) (da : FVec F S1x32x512 .bf16) (v2 v6 v24 v25 : BitVec 32) (v48 : FVec F S4x32x512 .bf16) :
    k0_t5_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v24 v25 v48 = fun t h =>
      trip a ((chunk d0 4).offX t) ((chunk d0 4).hX t) ((chunk d0 4).offB t) ((chunk d0 4).hB t) ((chunk d0 4).rows t) da h := rfl

set_option maxRecDepth 65536 in
set_option maxHeartbeats 8000000 in
theorem t6_body_eq (d0 : Dev nD) (da : FVec F S1x32x512 .bf16) (v2 v6 v26 v27 : BitVec 32) (v72 : FVec F S4x32x512 .bf16) :
    k0_t6_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v26 v27 v72 = fun t h =>
      trip a ((chunk d0 5).offX t) ((chunk d0 5).hX t) ((chunk d0 5).offB t) ((chunk d0 5).hB t) ((chunk d0 5).rows t) da h := rfl

set_option maxRecDepth 65536 in
set_option maxHeartbeats 8000000 in
theorem t7_body_eq (d0 : Dev nD) (da : FVec F S1x32x512 .bf16) (v2 v6 v26 v27 : BitVec 32) (v72 : FVec F S4x32x512 .bf16) :
    k0_t7_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v26 v27 v72 = fun t h =>
      trip a ((chunk d0 6).offX t) ((chunk d0 6).hX t) ((chunk d0 6).offB t) ((chunk d0 6).hB t) ((chunk d0 6).rows t) da h := rfl

set_option maxRecDepth 65536 in
set_option maxHeartbeats 8000000 in
theorem t8_body_eq (d0 : Dev nD) (da : FVec F S1x32x512 .bf16) (v2 v6 v26 v27 : BitVec 32) (v72 : FVec F S4x32x512 .bf16) :
    k0_t8_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v26 v27 v72 = fun t h =>
      trip a ((chunk d0 7).offX t) ((chunk d0 7).hX t) ((chunk d0 7).offB t) ((chunk d0 7).hB t) ((chunk d0 7).rows t) da h := rfl

set_option maxRecDepth 65536 in
set_option maxHeartbeats 8000000 in
theorem t9_body_eq (d0 : Dev nD) (v2 v5 v6 v21 v28 : BitVec 32) (da : FVec F S1x32x512 .bf16) (v108 : FVec F S4x32x512 .bf16) (h3 : k0_cond3 d0 = 1#1) :
    k0_t9_body a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v5 v6 da v21 v28 v108 h3 = fun t hc => corrSteps a d0 h3 da t 8 0 (by omega) hc := rfl

set_option maxRecDepth 65536 in
set_option maxHeartbeats 8000000 in
theorem part121_eq (d0 : Dev nD) (da : FVec F S1x32x512 .bf16) (v2 v6 v21 v22 v23 : BitVec 32) :
    k0_part121 a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v21 v22 v23 = opening a d0 da := by
  rw [k0_part121_eq_skeleton]; unfold k0_part121_skel; rw [t1_body_eq, t2_body_eq, t3_body_eq]; rfl

set_option maxRecDepth 65536 in
set_option maxHeartbeats 8000000 in
theorem part122_eq (d0 : Dev nD) (da : FVec F S1x32x512 .bf16) (v2 v6 v24 v25 : BitVec 32) (h : FVec F S4x32x512 .bf16) :
    k0_part122 a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v24 v25 h = sendsFrom a d0 da 2 2 (by omega) h >>= fun h' => sendSlab a d0 4 >>= fun _ => pure h' := by
  rw [k0_part122_eq_skeleton]; unfold k0_part122_skel; rw [t4_body_eq, t5_body_eq]
  simp only [sendsFrom, bind_assoc, pure_bind]
  rfl

set_option maxRecDepth 65536 in
set_option maxHeartbeats 8000000 in
theorem part123_eq (d0 : Dev nD) (da : FVec F S1x32x512 .bf16) (v2 v6 v26 v27 : BitVec 32) (h : FVec F S4x32x512 .bf16) :
    k0_part123 a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v6 da v26 v27 h = chunkLoop a d0 5 da h >>= fun h' => sendsFrom a d0 da 2 5 (by omega) h' := by
  rw [k0_part123_eq_skeleton]; unfold k0_part123_skel; rw [t6_body_eq, t7_body_eq, t8_body_eq]; rfl

set_option maxRecDepth 65536 in
set_option maxHeartbeats 8000000 in
theorem part124_eq (d0 : Dev nD) (da : FVec F S1x32x512 .bf16) (v2 v5 v6 v21 v28 : BitVec 32) (h : FVec F S4x32x512 .bf16) :
    k0_part124 a.arg0 a.harg0 a.arg1 a.harg1 a.arg2 a.harg2 a.arg3 a.harg3 a.arg4 a.harg4 a.arg5 a.harg5 a.arg6 a.harg6 a.arg7 a.harg7 a.arg8 a.arg9 a.arg10 a.arg11 d0 v2 v5 v6 da v21 v28 h = closing a ⟨Scalar.addi 0#32 (Scalar.muli v2 2#32), 1#32⟩ d0 da h := by
  rw [k0_part124_eq_skeleton]; unfold k0_part124_skel closing correct sendState
  simp only [t9_body_eq, bind_assoc, pure_bind]
  rfl

theorem sends_four (d0 : Dev nD) (da : FVec F S1x32x512 .bf16) (h : FVec F S4x32x512 .bf16) :
    sendsFrom a d0 da 3 4 (by omega) h
      = sendSlab a d0 4 >>= fun _ => chunkLoop a d0 5 da h >>= fun h' => sendsFrom a d0 da 2 5 (by omega) h' := rfl

theorem closing_map {β : Type} (r : β) (d0 : Dev nD) (da : FVec F S1x32x512 .bf16) (h : FVec F S4x32x512 .bf16) :
    closing a r d0 da h = closing a (⟨⟩ : PUnit) d0 da h >>= fun _ => pure r := by
  unfold closing
  simp only [bind_assoc, pure_bind]
  congr 1; funext _
  congr 1; funext _
  congr 1; funext _
  split <;> split <;> simp only [bind_assoc, pure_bind]

set_option maxRecDepth 65536 in
set_option maxHeartbeats 8000000 in
/-- The printed body is the body above. -/
theorem body_eq : cc0_body (F := F) a.arg0 a.harg0 a.arg1 a.harg1 a.arg2 a.harg2 a.arg3 a.harg3 a.arg4 a.harg4 a.arg5 a.harg5 a.arg6 a.harg6 a.arg7 a.harg7 a.arg8 a.arg9 a.arg10 a.arg11 = body a := by
  unfold cc0_body
  unfold body work
  simp only [sends_four, part121_eq, part122_eq, part123_eq, part124_eq, closing_map a (β := Σ' (_ : BitVec 32), BitVec 32), bind_assoc, pure_bind]
  rfl

end Cert.KernelIdeal.Scan
-- ==== Proof.Region.lean ====
module

public import proofs.«01_k».proof.Proof.Run
public import proofs.«01_k».proof.Proof.BodyEq
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ
local notation "Ε" => wpE (defs₀ (F := F)) 𝒱₀

variable (m : (l : Loc nD τ sig) → Buf (Elt F) l)

/-! ## What the kernel is called with, and what it leaves -/

/-- The five operands, as the host leaves them. -/
def ins (c : Dev nD) : Ins F :=
  ⟨V1 m c main_v16, V1 m c main_v11, V1 m c main_v43, V1 m c main_v17, V1 m c main_v18⟩

/-- The kernel's result; every other buffer as it was. -/
def outs : Outs (F := F) := fun _ r c =>
  if h : r = main_v44 then h ▸ (final (ins m) c : Buf (Elt F) ((c : Thread nD τ).loc main_v44)) else V1 m c r

theorem outs_v44 (c : Dev nD) : outs m 2 main_v44 c = final (ins m) c := by unfold outs; rw [dif_pos rfl]

def phi (c : Dev nD) (X : sProp 𝕄) : sProp 𝕄 := iprop(X ∗ ∃ r, prngReg c r)

def Xk (c : Dev nD) : sProp 𝕄 :=
  iprop((∃ K, recs (ins m) K) ∗ levAts L lv ∗ atPos ER (barC c) 0 ∅ 0 ∗ openedOf (F := F) c ∗ duesOf (F := F) c ∗ credsOf (F := F) c)
def Tk (c : Dev nD) : sProp 𝕄 :=
  iprop((∃ K, recs (ins m) K) ∗ atPos ER (barC c) 0 ∅ 0
    ∗ bigSep Finset.univ (fun k : Fin 18 => (openTok ER ((c : Thread nD τ), osem k) : sProp 𝕄)) ∗ duesOf (F := F) c ∗ credsOf (F := F) c)
def Yk (c : Dev nD) : sProp 𝕄 := semVal (barC c) 0

def before (c : Dev nD) : sProp 𝕄 :=
  iprop(Xk m c ∗ (∃ f, pt (F := F) c cc0_scratch0 f) ∗ (∃ f, pt (F := F) c cc0_scratch1 f))
def behind (c : Dev nD) : sProp 𝕄 :=
  iprop(stEnd (F := F) c ∗ bigSep Finset.univ (fun k : Fin 8 => (semVal (ySC c k) 0 : sProp 𝕄))
    ∗ bigSep Finset.univ (fun k : Fin 8 => (semVal (yRC c k) 0 : sProp 𝕄)) ∗ semVal (barC c) 0)

def dat (c : Dev nD) : Dat τ (Elt F) Unit ℕ UU ℕ (cfgs 0) c where
  A w := V1 m c (Proc.devRef .tc (Pipeline.arrRef spec0 w))
  after w _ := match w with
    | 0 => (ins m c).x
    | 1 => (ins m c).dA
    | 2 => (ins m c).p
    | 3 => (ins m c).b
    | 4 => (ins m c).c
    | 5 => final (ins m) c
  Φ t := phi c (if t.val = 0 then before m c else behind c)
  q _ := fullShare
  owed t := if t.val = 0 then O₀ c else 0

def pdats : (p : Fin 1) → (c : Dev nD) → Dat τ (Elt F) Unit ℕ UU ℕ (cfgs p) c := fun | 0 => dat m

theorem owesAt_in (c : Dev nD) (t) (O : CellTallies nD τ sig Unit) (h0 : (dat m c).owed t = O) :
    owesE (F := F) c O ⊢ ((dat m c).owesAt () t : sProp 𝕄) := by
  unfold owesE Dat.owesAt Pipeline.owesWithin; rw [h0]
  iintro ⟨%W, HO⟩; iexists W
  isplitr
  · ipureintro; exact fun _ _ => Or.inl trivial
  · iexact HO

theorem owesAt_out (c : Dev nD) (t) (O : CellTallies nD τ sig Unit) (h0 : (dat m c).owed t = O) :
    ((dat m c).owesAt () t : sProp 𝕄) ⊢ owesE (F := F) c O := by
  unfold owesE Dat.owesAt Pipeline.owesWithin; rw [h0]
  iintro ⟨%W, -, HO⟩; iexists W; iexact HO

/-! ## The body of the region -/

/-- A window of a kernel with no grid is fetched whole. -/
theorem fill_whole {s : Shape} {e : EltTy} {cs : CoreSpace} (arr : Memref sig .tc .hbm s e) (o sy : Bool)
    (stage : Memref sig .tc (.core cs) ⟨s.rank, s.size⟩ e) (sem : DmaSem sig) (harr : arr.IsWhole) (hst : stage.IsWhole)
    (t : Fin Pipeline.Grid.none.N) (d : (⟨s.rank, s.size⟩ : Shape).Idx → Elt F e) (f : arr.view.ty.Contents (Elt F)) :
    (Pipeline.Window.whole arr o sy stage sem harr hst).fill (Pipeline.Grid.none.coords t) d
      (((Pipeline.Window.whole arr o sy stage sem harr hst).blk t).view.read (Elt F) f) = arr.view.read (Elt F) f := by
  funext j
  unfold Pipeline.Window.fill
  rw [dif_pos ((Pipeline.Window.moved_iff _ _ _).mpr fun a => (j a).isLt)]
  show arr.view.read (Elt F) f (((Pipeline.Window.whole arr o sy stage sem harr hst).rect t).emb _) = _
  refine congrArg (arr.view.read (Elt F) f) (funext fun a => Fin.ext ?_)
  exact Pipeline.Window.rect_emb_val_of_index_zero (Pipeline.Window.whole arr o sy stage sem harr hst) t a rfl _

theorem before_0 (c : Dev nD) (d) : (dat m c).before 0 t0_0 d = (ins m c).x :=
  (Dat.before_fetched (dat m c) 0 t0_0 (fetch0_0 t0_0) d).trans (fill_whole (Memref.whole main_v16) _ _ _ _ (Memref.isWhole_whole _) (Memref.isWhole_whole _) t0_0 d _)
theorem before_1 (c : Dev nD) (d) : (dat m c).before 1 t0_0 d = (ins m c).dA :=
  (Dat.before_fetched (dat m c) 1 t0_0 (fetch0_1 t0_0) d).trans (fill_whole (Memref.whole main_v11) _ _ _ _ (Memref.isWhole_whole _) (Memref.isWhole_whole _) t0_0 d _)
theorem before_2 (c : Dev nD) (d) : (dat m c).before 2 t0_0 d = (ins m c).p :=
  (Dat.before_fetched (dat m c) 2 t0_0 (fetch0_2 t0_0) d).trans (fill_whole (Memref.whole main_v43) _ _ _ _ (Memref.isWhole_whole _) (Memref.isWhole_whole _) t0_0 d _)
theorem before_3 (c : Dev nD) (d) : (dat m c).before 3 t0_0 d = (ins m c).b :=
  (Dat.before_fetched (dat m c) 3 t0_0 (fetch0_3 t0_0) d).trans (fill_whole (Memref.whole main_v17) _ _ _ _ (Memref.isWhole_whole _) (Memref.isWhole_whole _) t0_0 d _)
theorem before_4 (c : Dev nD) (d) : (dat m c).before 4 t0_0 d = (ins m c).c :=
  (Dat.before_fetched (dat m c) 4 t0_0 (fetch0_4 t0_0) d).trans (fill_whole (Memref.whole main_v18) _ _ _ _ (Memref.isWhole_whole _) (Memref.isWhole_whole _) t0_0 d _)

set_option maxHeartbeats 4000000 in
theorem body_obligation (c : Dev nD) : BodyObligation (dat m c) defs₀ 𝒱₀ () Set.univ := fun t => by
  obtain rfl := fin_N0 t
  rw [bigSep_W0, bigSep_W0]
  show iprop(phi c (before m c) ∗ (dat m c).owesAt () t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d))
      ∗ (∃ d, owns (c : Thread nD τ) (Memref.whole cc0_stg4_0) fullShare ((dat m c).before 4 t0_0 d))
      ∗ (∃ d, owns (c : Thread nD τ) (Memref.whole cc0_stg5_0) fullShare ((dat m c).before 5 t0_0 d)))
    ⊢ wp frame (Ε c none) Set.univ (bodyAt0 t0_0) fun _ =>
      iprop(phi c (behind c) ∗ (dat m c).owesAt () t0_0.succ
        ∗ owns (c : Thread nD τ) (Memref.whole cc0_stg0_0) fullShare (ins m c).x
        ∗ owns (c : Thread nD τ) (Memref.whole cc0_stg1_0) fullShare (ins m c).dA
        ∗ owns (c : Thread nD τ) (Memref.whole cc0_stg2_0) fullShare (ins m c).p
        ∗ owns (c : Thread nD τ) (Memref.whole cc0_stg3_0) fullShare (ins m c).b
        ∗ owns (c : Thread nD τ) (Memref.whole cc0_stg4_0) fullShare (ins m c).c
        ∗ owns (c : Thread nD τ) (Memref.whole cc0_stg5_0) fullShare (final (ins m) c))
  rw [show bodyAt0 (F := F) t0_0 = body kArgs from body_eq kArgs]
  simp only [owns_whole, before_0, before_1, before_2, before_3, before_4]
  unfold phi before behind Xk
  iintro ⟨⟨⟨⟨⟨%K, #HR⟩, #Hlev, HatB, Hop, Hdu, Hcr⟩, Hh, Hg⟩, Hp⟩, HO, ⟨%d0, H0⟩, ⟨%d1, H1⟩, ⟨%d2, H2⟩, ⟨%d3, H3⟩, ⟨%d4, H4⟩, %d5, H5⟩
  ihave HO' := (owesAt_out m c t0_0.castSucc (O₀ c) rfl) $$ HO
  iapply (body_wp (ins m) K c _)
  isplitr; · iexact HR
  isplitr; · iexact Hlev
  isplitl [HatB Hop Hdu Hcr Hh Hg HO' H0 H1 H2 H3 H4 H5]
  · unfold bodyPre insPt
    isplitl [H0 H1 H2 H3 H4]
    · isplitl [H0]; · iexact H0
      isplitl [H1]; · iexact H1
      isplitl [H2]; · iexact H2
      isplitl [H3] <;> iassumption
    isplitl [H5]; · iexists _; iexact H5
    isplitl [Hh]; · iexact Hh
    isplitl [Hg]; · iexact Hg
    isplitl [HatB]; · iexact HatB
    isplitl [Hop]; · iexact Hop
    isplitl [Hdu]; · iexact Hdu
    isplitl [Hcr]; · iexact Hcr
    iexact HO'
  unfold bodyPost insPt
  iintro ⟨⟨H0, H1, H2, H3, H4⟩, H5, Hst, HyS, HyR, Hb, HO⟩
  ihave HO' := (owesAt_in m c t0_0.succ 0 rfl) $$ HO
  isplitl [Hst HyS HyR Hb Hp]
  · isplitl [Hst HyS HyR Hb]
    · isplitl [Hst]; · iexact Hst
      isplitl [HyS]; · iexact HyS
      isplitl [HyR]; · iexact HyR
      iexact Hb
    iexact Hp
  isplitl [HO']; · iexact HO'
  isplitl [H0]; · iexact H0
  isplitl [H1]; · iexact H1
  isplitl [H2]; · iexact H2
  isplitl [H3]; · iexact H3
  isplitl [H4]; · iexact H4
  iexact H5

/-! ## The kernel's own semaphores -/

theorem univ_18 : (Finset.univ : Finset (Fin 18)) = insert 0 (insert 1
    (Finset.univ.map ⟨fun k : Fin 8 => (⟨2 + k.val, by omega⟩ : Fin 18), fun a b h => by simpa [Fin.ext_iff] using h⟩
      ∪ Finset.univ.map ⟨fun k : Fin 8 => (⟨10 + k.val, by omega⟩ : Fin 18), fun a b h => by simpa [Fin.ext_iff] using h⟩)) := by decide

theorem split_18 (Φ : Fin 18 → sProp 𝕄) : bigSep Finset.univ Φ
    = iprop(Φ 0 ∗ Φ 1 ∗ bigSep Finset.univ (fun k : Fin 8 => Φ ⟨2 + k.val, by omega⟩) ∗ bigSep Finset.univ (fun k : Fin 8 => Φ ⟨10 + k.val, by omega⟩)) := by
  rw [univ_18, BI.bigSep_insert (by decide), BI.bigSep_insert (by decide), BI.bigSep_union (by decide), bigSep_map, bigSep_map]
  rfl

theorem own_sems (c : Dev nD) : (Pipeline.ownSems0 osem c : sProp 𝕄)
    = iprop(semVal (stSC c) 0 ∗ semVal (stRC c) 0 ∗ bigSep Finset.univ (fun k : Fin 8 => (semVal (ySC c k) 0 : sProp 𝕄))
      ∗ bigSep Finset.univ (fun k : Fin 8 => (semVal (yRC c k) 0 : sProp 𝕄))) :=
  split_18 (fun k => (semVal ((c : Thread nD τ), osem k) 0 : sProp 𝕄))

theorem big_join {ι : Type} [DecidableEq ι] (s : Finset ι) (Φ Ψ : ι → sProp 𝕄) :
    iprop(bigSep s Φ ∗ bigSep s Ψ) ⊢ bigSep s (fun i => iprop(Φ i ∗ Ψ i)) := by rw [bigSep_sep']

/-- One of the kernel's own cells is opened. -/
theorem open_cell (K : GSem nD τ sig → ℕ) (c : Dev nD) (k : Fin 18) :
    iprop(recs (ins m) K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HR, Ho, Hs⟩
  imod (Rounds.cell_open ER (rd (ins m)) (g := ((c : Thread nD τ), osem k)) (Set.mem_univ (K ((c : Thread nD τ), osem k)))) $$ [Ho Hs] with ⟨Hat, #Hr⟩
  · isplitr; · iapply (inv_of (ins m) K (sc_mem c k rfl)) $$ HR
    isplitl [Ho] <;> iassumption
  imodintro
  isplitl [Hat]; · iexact Hat
  iexact Hr

theorem open_all (c : Dev nD) : iprop(Tk m c ∗ Pipeline.ownSems0 osem c ∗ levAts L lv) ⊢ (|={Set.univ}=> Xk m c : sProp 𝕄) := by
  unfold Tk Xk Pipeline.ownSems0 openedOf
  iintro ⟨⟨⟨%K, #HR⟩, HatB, Hop, Hdu, Hcr⟩, Hs, #Hlev⟩
  ihave Hb := (big_join Finset.univ (fun k : Fin 18 => (openTok ER ((c : Thread nD τ), osem k) : sProp 𝕄))
    (fun k : Fin 18 => (semVal ((c : Thread nD τ), osem k) 0 : sProp 𝕄))) $$ [Hop Hs]
  · isplitl [Hop] <;> iassumption
  ihave Hf := (bigSep_with_persistent (R := recs (ins m) K) (Φ := fun k : Fin 18 => iprop(openTok ER ((c : Thread nD τ), osem k) ∗ semVal ((c : Thread nD τ), osem k) 0))
    (S := Finset.univ) fun k _ => open_cell m K c k) $$ [Hb]
  · isplitr; · iexact HR
    iexact Hb
  imod (bigSep_fupd _ _) $$ Hf with Hf
  ihave Hg := (Entails.of_eq (split_18 (fun k => iprop(atPos ER ((c : Thread nD τ), osem k) 0 ∅ 0 ∗ reached ER ((c : Thread nD τ), osem k) 0) : Fin 18 → sProp 𝕄))) $$ Hf
  icases Hg with ⟨H0, H1, H2, H3⟩
  imodintro
  isplitr; · iexists K; iexact HR
  isplitr; · iexact Hlev
  isplitl [HatB]; · iexact HatB
  isplitl [H0 H1 H2 H3]
  · isplitl [H0]; · iexact H0
    isplitl [H1]; · iexact H1
    isplitl [H2]; · iexact H2
    iexact H3
  isplitl [Hdu] <;> iassumption

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers no window names. -/
def others : Finset (DevRef τ sig) := Pipeline.ucRefs τ sig \ Pipeline.arrRefs (τ := τ) spec0

theorem entering (c : Dev nD) : iprop(Pipeline.scopedRest spec0 c ∗ (∃ r, prngReg c r) ∗ StableHlo.held (c.tc : Thread nD τ) ∅ (V1 m c) ∗ Xk m c)
    ⊢ (dat m c).Φ 0 := by
  rw [show (dat m c).Φ 0 = phi c (before m c) from rfl, scopedRest0_eq]
  unfold phi before
  iintro ⟨⟨Hh, Hg⟩, Hp, -, HX⟩
  isplitr [Hp]
  · isplitl [HX]; · iexact HX
    isplitl [Hh] <;> iassumption
  iexact Hp

theorem leaving (c : Dev nD) : (dat m c).Φ (Fin.last (cfgs 0).N)
    ⊢ iprop(Pipeline.scopedRest spec0 c ∗ (∃ r, prngReg c r) ∗ StableHlo.held (c.tc : Thread nD τ) ∅ (V2 m (outs m) c) ∗ Pipeline.ownSems0 osem c ∗ Yk c) := by
  rw [show (dat m c).Φ (Fin.last (cfgs 0).N) = phi c (behind c) from rfl, scopedRest0_eq, own_sems]
  unfold phi behind stEnd Yk StableHlo.held
  rw [BI.bigSep_empty]
  iintro ⟨⟨⟨Hh, Hg, HS, HR⟩, HyS, HyR, Hb⟩, Hp⟩
  isplitl [Hh Hg]; · isplitl [Hh] <;> iassumption
  isplitl [Hp]; · iexact Hp
  isplitr; · iempintro
  isplitr [Hb]
  · isplitl [HS]; · iexact HS
    isplitl [HR]; · iexact HR
    isplitl [HyS] <;> iassumption
  iexact Hb

theorem arrAt_last (c : Dev nD) (w : Fin 6) : (dat m c).arrAt w (cfgs 0).N = V2 m (outs m) c (Proc.devRef .tc (Pipeline.arrRef spec0 w)) := by
  have hin (v : Fin 6) (hv : ((cfgs 0).win v).isOut = false) (hne : Pipeline.arrRef spec0 v ≠ main_v44) :
      (dat m c).arrAt v (cfgs 0).N = V2 m (outs m) c (Proc.devRef .tc (Pipeline.arrRef spec0 v)) := by
    rw [Dat.arrAt_in (dat m c) v hv]
    unfold V2
    rw [Function.update_of_ne fun h => hne (Proc.devRef_injective _ h)]
    rfl
  fin_cases w
  · exact hin 0 rfl (by decide)
  · exact hin 1 rfl (by decide)
  · exact hin 2 rfl (by decide)
  · exact hin 3 rfl (by decide)
  · exact hin 4 rfl (by decide)
  · refine (Dat.arrAt_eq_of_after_last (dat m c) 5 t0_0 (by decide +kernel) (final (ins m) c) (fun j => rfl)).trans ?_
    show _ = Function.update (V1 m c) (Proc.devRef .tc main_v44) (outs m 2 main_v44 c) (Proc.devRef .tc main_v44)
    rw [Function.update_self, outs_v44]

theorem others_kept (c : Dev nD) (b : DevRef τ sig) (hb : b ∈ others \ ∅) : V2 m (outs m) c b = V1 m c b := by
  unfold V2
  refine Function.update_of_ne (fun h => ?_) _ _
  subst h
  exact (Finset.mem_sdiff.mp (Finset.mem_sdiff.mp hb).1).2 (by decide)

theorem share_full (c : Dev nD) (w : Fin 6) : (dat m c).share w = fullShare := by
  fin_cases w <;> rfl

theorem staging_low (c : Dev nD) (w : Fin 6) (s : Fin ((cfgs 0).win w).nbuf) : lv ((c : Thread nD τ), .dma (((cfgs 0).win w).sem s)) () ≤ 0 :=
  (by decide : ∀ (w : Fin 6) (s : Fin (spec0 w).nbuf), levelOf (role (.dma ((spec0 w).sem s))) ≤ 0) w s

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_obligation m c).loose)
    (fun _ => 0) O₀ (fun c => (show (dat m c).owed 0 = O₀ c from rfl).trans (zero_add _).symm) (fun _ => rfl) (fun _ => rfl) (fun c w => share_full m c w)
    (V1 m) (V2 m (outs m)) (others_kept m)
    (Tk m) Yk (Xk m) Yk (open_all m) (entering m) (leaving m)
    (fun c => by iintro H; imodintro; iexact H)
    (fun _ => 0)
    ⟨fun c w s => by rw [L_tc]; exact Finset.mem_singleton_self _, staging_low, fun c t g i h => by
      have e : (pdats m 0 c).owed t = if t.val = 0 then O₀ c else 0 := rfl
      rw [e] at h
      split at h
      · exact above_O₀ c g i h
      · exact absurd h (Nat.lt_irrefl 0)⟩
    (fun _ => iprop(emp))
    (fun c w => rfl) (arrAt_last m)

end Cert.KernelIdeal.Scan

end
-- ==== Proof.Launch.lean ====
module

public import proofs.«01_k».proof.Proof.Region
public import Idealize.ShloMosaic.Lib.Quiescent

@[expose] public section

noncomputable section

namespace Cert.KernelIdeal.Scan

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ
local notation "Ε" => wpE (defs₀ (F := F)) 𝒱₀

variable (m : (l : Loc nD τ sig) → Buf (Elt F) l) (ρ : Dev nD → PrngReg)

/-! ## What every device is dealt at launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The duties of the barrier's cells; those of the kernel's own. -/
def barTok : Dev nD × Bool ↪ GSem nD τ sig × ℕ × Bool :=
  ⟨fun cb => (barC cb.1, 0, cb.2), fun _ _ h =>
    Prod.ext (congrArg (fun t : GSem nD τ sig × ℕ × Bool => t.1.1.1) h) (congrArg (fun t : GSem nD τ sig × ℕ × Bool => t.2.2) h)⟩
def scTok : Dev nD × Fin 18 ↪ GSem nD τ sig × ℕ × Bool :=
  ⟨fun ck => (((ck.1 : Thread nD τ), osem ck.2), 0, true), fun _ _ h =>
    Prod.ext (congrArg (fun t : GSem nD τ sig × ℕ × Bool => t.1.1.1) h)
      (osem_inj (congrArg (fun t : GSem nD τ sig × ℕ × Bool => t.1.2) h))⟩
def allToks : Finset (GSem nD τ sig × ℕ × Bool) := Finset.univ.map barTok ∪ Finset.univ.map scTok

theorem disjoint_toks : Disjoint (Finset.univ.map barTok) (Finset.univ.map scTok) := by
  rw [Finset.disjoint_left]
  rintro g h₁ h₂
  obtain ⟨c, -, rfl⟩ := Finset.mem_map.mp h₁
  obtain ⟨ck, -, h⟩ := Finset.mem_map.mp h₂
  exact osem_ne_bar ck.2 (congrArg (fun t : GSem nD τ sig × ℕ × Bool => t.1.2) h)

def u₀ : UU :=
  (initOf (Pipeline.cells (Pipeline.pin (pcfgs (F := F)) adm) cellOf_inj) (Pipeline.launchToks (Pipeline.pin (pcfgs (F := F)) adm) cellOf_inj),
    launchOf barCells scCells allToks)

/-- The launch element of the protocol rests on one device until all are dealt. -/
def parked (c : Dev nD) : sProp 𝕄 := if c = 0 then BI.own (ER (launchOf barCells scCells allToks)) else iprop(emp)

theorem bigSep_parked : bigSep Finset.univ (parked (F := F)) = (BI.own (ER (launchOf barCells scCells allToks)) : sProp 𝕄) := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The tokens of the duties that fall due on a device's cells. -/
def toks (c : Dev nD) : sProp 𝕄 :=
  iprop(dutyTok ER (barC c) 0 true ∗ dutyTok ER (barC c) 0 false ∗ dutyTok ER (stSC c) 0 true ∗ dutyTok ER (stRC c) 0 true
    ∗ bigSep Finset.univ (fun k : Fin 8 => (dutyTok ER (ySC c k) 0 true : sProp 𝕄))
    ∗ bigSep Finset.univ (fun k : Fin 8 => (dutyTok ER (yRC c k) 0 true : sProp 𝕄)))

theorem bigSep_bool (Φ : Bool → sProp 𝕄) : bigSep Finset.univ Φ = iprop(Φ true ∗ Φ false) := by
  rw [show (Finset.univ : Finset Bool) = {true, false} from by decide, BI.bigSep_insert (by decide), BI.bigSep_singleton]
  rfl

theorem toks_eq : bigSep allToks (fun x => (dutyTok ER x.1 x.2.1 x.2.2 : sProp 𝕄)) ⊢ bigSep Finset.univ (toks (F := F)) := by
  unfold allToks
  rw [BI.bigSep_union disjoint_toks, bigSep_map, bigSep_map, bigSep_univ_prod, bigSep_univ_prod]
  refine (big_join _ _ _).trans (bigSep_mono fun c _ => ?_)
  rw [bigSep_bool, split_18]
  show (iprop((dutyTok ER (barC c) 0 true ∗ dutyTok ER (barC c) 0 false)
      ∗ dutyTok ER ((c : Thread nD τ), osem 0) 0 true ∗ dutyTok ER ((c : Thread nD τ), osem 1) 0 true
      ∗ bigSep Finset.univ (fun k : Fin 8 => (dutyTok ER ((c : Thread nD τ), osem ⟨2 + k.val, by omega⟩) 0 true : sProp 𝕄))
      ∗ bigSep Finset.univ (fun k : Fin 8 => (dutyTok ER ((c : Thread nD τ), osem ⟨10 + k.val, by omega⟩) 0 true : sProp 𝕄))) : sProp 𝕄) ⊢ _
  simp only [osem_stS, osem_stR, osem_yS, osem_yR]
  first | exact BI.sep_assoc | exact BI.sep_assoc'

def xE : Dev nD ≃ Dev nD := ⟨xDev, xDev, xDev_xDev, xDev_xDev⟩
def yE : Dev nD ≃ Dev nD := ⟨yDev, yDev, yDev_yDev, yDev_yDev⟩

/-- Every token goes to the device that pays the duty. -/
theorem toks_around : bigSep Finset.univ (toks (F := F)) ⊢ bigSep Finset.univ (duesOf (F := F)) := by
  unfold toks duesOf
  rw [bigSep_sep', bigSep_sep', bigSep_sep', bigSep_sep', bigSep_sep', bigSep_sep', bigSep_sep', bigSep_sep', bigSep_sep', bigSep_sep',
    bigSep_univ_equiv xE (fun c : Dev nD => (dutyTok ER (barC c) 0 true : sProp 𝕄)),
    bigSep_univ_equiv yE (fun c : Dev nD => (dutyTok ER (barC c) 0 false : sProp 𝕄)),
    bigSep_univ_equiv xE (fun c : Dev nD => (dutyTok ER (stRC c) 0 true : sProp 𝕄)),
    bigSep_univ_equiv yE (fun c : Dev nD => bigSep Finset.univ (fun k : Fin 8 => (dutyTok ER (yRC c k) 0 true : sProp 𝕄)))]
  exact BI.Entails.refl _

/-! ## The launch's credit -/

theorem tally_ne {c d : Dev nD} {s t : SemLoc sig} (h : ¬(d = c ∧ role s = role t)) (n : ℕ) :
    (tallyAt ((c : Thread nD τ), t) () n : CellTallies nD τ sig Unit) ((d : Thread nD τ), s) () = 0 := by
  rw [tallyAt_apply, if_neg fun e => h ⟨congrArg (fun g : GSem nD τ sig => g.1.1) e.1, congrArg (fun g : GSem nD τ sig => role g.2) e.1⟩]
theorem tally_eq {c d : Dev nD} (s : SemLoc sig) (n : ℕ) :
    (tallyAt ((c : Thread nD τ), s) () n : CellTallies nD τ sig Unit) ((d : Thread nD τ), s) () = if d = c then n else 0 := by
  by_cases h : d = c
  · subst h; rw [tallyAt_apply, if_pos ⟨rfl, rfl⟩, if_pos rfl]
  · rw [if_neg h]
    rw [tallyAt_apply, if_neg fun e => h (congrArg (fun g : GSem nD τ sig => g.1.1) e.1)]

theorem O₀_at (d : Dev nD) (g : GSem nD τ sig) : O₀ d g () = (∑ k : Fin 8, tallyAt (yRC (yDev d) k) () N g ()) + oweSt d g ()
    + tallyAt (barC (yDev d)) () 1 g () + tallyAt (barC (xDev d)) () 1 g () := by
  unfold O₀ oweY
  rw [Pi.add_apply, Pi.add_apply, Pi.add_apply, Finsupp.add_apply, Finsupp.add_apply, Finsupp.add_apply, mid_all, Finset.sum_apply,
    Finsupp.finset_sum_apply]

theorem oweSt_other (d c : Dev nD) {s : SemLoc sig} (h : role s ≠ .stR) : oweSt d ((c : Thread nD τ), s) () = 0 := by
  unfold oweSt
  split
  · exact tally_ne (fun e => h (e.2.trans role_stR)) M
  · rfl

theorem flip_x (c d : Dev nD) : (c = xDev d) = (d = xDev c) :=
  propext ⟨fun h => by rw [h, xDev_xDev], fun h => by rw [h, xDev_xDev]⟩
theorem flip_y (c d : Dev nD) : (c = yDev d) = (d = yDev c) :=
  propext ⟨fun h => by rw [h, yDev_yDev], fun h => by rw [h, yDev_yDev]⟩

theorem owed_bar (d c : Dev nD) : O₀ d (barC c) () = (if d = yDev c then 1 else 0) + if d = xDev c then 1 else 0 := by
  rw [O₀_at, Finset.sum_eq_zero (fun k _ => tally_ne (fun e => by have := e.2; rw [role_yR] at this; cases this) N),
    oweSt_other d c (by decide), tally_eq, tally_eq]
  simp only [flip_x c d, flip_y c d, Nat.zero_add]

theorem owed_st (d c : Dev nD) (h : ¬c.val < 2) : O₀ d (stRC c) () = if d = xDev c then M else 0 := by
  rw [O₀_at, Finset.sum_eq_zero (fun k _ => tally_ne (fun e => by have := e.2; rw [role_yR, role_stR] at this; cases this) N),
    tally_ne (fun e => by have := e.2; rw [role_stR] at this; cases this) 1, tally_ne (fun e => by have := e.2; rw [role_stR] at this; cases this) 1]
  unfold oweSt
  simp only [Nat.zero_add, Nat.add_zero]
  have hx := xDev_val c
  have hc : c.val < 4 := c.isLt
  split
  · next hd => rw [tally_eq]; simp only [flip_x c d]
  · next hd =>
    rw [if_neg (fun e => hd (by rw [e, hx]; omega))]; rfl

theorem owed_y (d c : Dev nD) (k : Fin 8) : O₀ d (yRC c k) () = if d = yDev c then N else 0 := by
  rw [O₀_at, oweSt_other d c (by rw [role_yR]; exact fun h => by cases h),
    tally_ne (fun e => by have := e.2; rw [role_yR] at this; cases this) 1, tally_ne (fun e => by have := e.2; rw [role_yR] at this; cases this) 1,
    Finset.sum_eq_single k (fun j _ hj => tally_ne (fun e => by have := e.2; rw [role_yR, role_yR] at this; exact hj (Role.yR.inj this).symm) N)
      (fun h => absurd (Finset.mem_univ k) h), tally_eq]
  simp only [flip_y c d, Nat.add_zero]

theorem launch_at (c : Dev nD) (s : SemLoc sig) (n : ℕ) (h : ∑ d : Dev nD, O₀ d ((c : Thread nD τ), s) () = n) :
    tallyOn ((c : Thread nD τ), s) (launchCredit (Pipeline.owing O₀) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, h]

theorem sum_one (a : Dev nD) (n : ℕ) : ∑ d : Dev nD, (if d = a then n else 0) = n := by
  rw [Finset.sum_ite_eq' Finset.univ a fun _ => n, if_pos (Finset.mem_univ _)]

theorem launch_bar (c : Dev nD) : tallyOn (barC c) (launchCredit (Pipeline.owing O₀) 0 (barC c)) = (tallyAt (barC c) () 2 : CellTallies nD τ sig Unit) :=
  launch_at c _ 2 (by rw [Finset.sum_congr rfl fun d _ => owed_bar d c, Finset.sum_add_distrib, sum_one, sum_one])
theorem launch_st (c : Dev nD) (h : ¬c.val < 2) : tallyOn (stRC c) (launchCredit (Pipeline.owing O₀) 0 (stRC c)) = (tallyAt (stRC c) () M : CellTallies nD τ sig Unit) :=
  launch_at c _ M (by rw [Finset.sum_congr rfl fun d _ => owed_st d c h, sum_one])
theorem launch_y (c : Dev nD) (k : Fin 8) : tallyOn (yRC c k) (launchCredit (Pipeline.owing O₀) 0 (yRC c k)) = (tallyAt (yRC c k) () N : CellTallies nD τ sig Unit) :=
  launch_at c _ N (by rw [Finset.sum_congr rfl fun d _ => owed_y d c k, sum_one])

/-- The semaphores whose credit is waited for. -/
def yEmb : Fin 8 ↪ SemLoc sig := ⟨fun k => .dma (sem8 kArgs.arg11 k), fun a b h => Role.yR.inj ((role_yR a).symm.trans ((congrArg role h).trans (role_yR b)))⟩

theorem creds (c : Dev nD) : (Pipeline.launchCred O₀ c : sProp 𝕄) ⊢ credsOf (F := F) c := by
  unfold Pipeline.launchCred credsOf
  rw [bigSep_univ_at _ (SemLoc.reg barS), launch_bar]
  refine sep_mono_right ?_
  rw [show Finset.univ.erase (SemLoc.reg barS) = insert (.dma kArgs.arg9.sem) (Finset.univ.map yEmb
      ∪ ((Finset.univ.erase (SemLoc.reg barS)).erase (.dma kArgs.arg9.sem) \ Finset.univ.map yEmb)) from by decide,
    BI.bigSep_insert (by decide), BI.bigSep_union (by decide), bigSep_map]
  show iprop(cred (tallyOn (stRC c) (launchCredit (Pipeline.owing O₀) 0 (stRC c)))
    ∗ bigSep Finset.univ (fun k : Fin 8 => (cred (tallyOn (yRC c k) (launchCredit (Pipeline.owing O₀) 0 (yRC c k))) : sProp 𝕄)) ∗ _) ⊢ _
  rw [bigSep_congr (s := Finset.univ) (Ψ := fun k : Fin 8 => (cred (tallyAt (yRC c k) () N) : sProp 𝕄)) fun k _ => by rw [launch_y]]
  iintro ⟨Hs, Hy, -⟩
  isplitl [Hs]
  · split
    · iempintro
    · next h => rw [launch_st c h]; iexact Hs
  iexact Hy

/-! ## The run -/

/-- What goes along beside the buffers: before the kernel, and after it. -/
def beside : Fin 2 → Dev nD → sProp 𝕄
  | 0, c => iprop(Tk m c ∗ (∃ r, prngReg c r) ∗ owesE (F := F) c (O₀ c))
  | 1, c => iprop(semVal (barC c) 0 ∗ owesE (F := F) c 0)

theorem own_bar (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What a device keeps of the launch. -/
def kept₀ (c : Dev nD) : sProp 𝕄 :=
  iprop(atPos ER (barC c) 0 ∅ 0 ∗ bigSep Finset.univ (fun k : Fin 18 => (openTok ER ((c : Thread nD τ), osem k) : sProp 𝕄)) ∗ duesOf (F := F) c)
def dealt (c : Dev nD) : sProp 𝕄 :=
  iprop(StableHlo.held (c : Thread nD τ) (Pipeline.ucRefs τ sig) (V0 m c) ∗ credsOf (F := F) c ∗ (∃ r, prngReg c r) ∗ owesE (F := F) c (O₀ c))

theorem begin (K : GSem nD τ sig → ℕ) (c : Dev nD) : iprop(recs (ins m) K ∗ (kept₀ c ∗ dealt m c))
    ⊢ iprop(StableHlo.held (c : Thread nD τ) (Pipeline.ucRefs τ sig) (V0 m c) ∗ beside m 0 c) := by
  unfold kept₀ dealt beside Tk
  iintro ⟨#HR, ⟨Hat, Hop, Hdu⟩, Hh, Hcr, Hp, HO⟩
  isplitl [Hh]; · iexact Hh
  isplitl [Hat Hop Hdu Hcr]
  · isplitr; · iexists K; iexact HR
    isplitl [Hat]; · iexact Hat
    isplitl [Hop]; · iexact Hop
    isplitl [Hdu] <;> iassumption
  isplitl [Hp] <;> iassumption

theorem launch :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked (F := F) c)) ∗ levAts L lv)
      ⊢ (|={Set.univ}=> bigSep Finset.univ fun c : Dev nD =>
          iprop(StableHlo.held (c : Thread nD τ) (Pipeline.ucRefs τ sig) (V0 m c) ∗ beside m 0 c) : sProp 𝕄) := by
  have hone (c : Dev nD) : iprop(unscopedBufs c (fun b => m ((c.tc : Thread nD τ).loc b)) ∗ unscopedSems0 c
          ∗ owes (c.tc : Thread nD τ) (O₀ c) ∅ ∗ Pipeline.launchCred O₀ c ∗ prngReg c (ρ c) ∗ parked (F := F) c)
      ⊢ (iprop(dealt m c ∗ (semVal (barC c) 0 ∗ parked (F := F) c)) : sProp 𝕄) := by
    rw [own_bar, show (unscopedBufs c (fun b => m ((c.tc : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c)]
    unfold dealt owesE
    iintro ⟨Hh, Hb, HO, Hcr, Hp, HG⟩
    ihave Hc := (creds (F := F) c) $$ Hcr
    isplitl [Hh HO Hc Hp]
    · isplitl [Hh]; · iexact Hh
      isplitl [Hc]; · iexact Hc
      isplitl [Hp]; · iexists (ρ c); iexact Hp
      iexists ∅; iexact HO
    isplitl [Hb] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ (fun k : Fin 18 => (openTok ER ((c : Thread nD τ), osem k) : sProp 𝕄))) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked (F := F) c))
      ⊢ (iprop(bigSep Finset.univ (dealt m) ∗ bigSep Finset.univ (fun c : Dev nD => (semVal (barC c) 0 : sProp 𝕄)) ∗ bigSep Finset.univ (parked (F := F))) : sProp 𝕄)
      from (bigSep_mono fun c _ => hone c).trans (by rw [bigSep_sep', bigSep_sep']; exact BI.Entails.refl _)) $$ H
  icases H' with ⟨HB, Hv, HG⟩
  ihave Hu := (Entails.of_eq (bigSep_parked (F := F))) $$ HG
  imod (Rounds.fund_launch ER (rd (ins m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (ins m) κ) (Φ := fun c => iprop(kept₀ c ∗ dealt m c)) fun c _ => begin m κ c)
  isplitr
  · unfold recs
    isplitr; · iexact Hinv
    iexact Hr
  iapply (big_join Finset.univ (kept₀ (F := F)) (dealt m))
  isplitr [HB]
  · unfold kept₀
    rw [bigSep_sep', bigSep_sep']
    isplitl [Hat]; · iapply hat $$ Hat
    isplitl [Hopen]; · iapply hopen $$ Hopen
    iapply (toks_around (F := F))
    iapply (toks_eq (F := F)) $$ Htok
  · iexact HB

theorem held_all (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) others W) :=
  StableHlo.held_sub_split (c : Thread nD τ) (by decide) W

theorem region_pre (c : Dev nD) : iprop(StableHlo.held (c : Thread nD τ) (Pipeline.ucRefs τ sig) (V1 m c) ∗ beside m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [held_all, zero_add]
  unfold beside owesE
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem region_post (c : Dev nD) : (region m).post c
    ⊢ iprop(StableHlo.held (c : Thread nD τ) (Pipeline.ucRefs τ sig) (V2 m (outs m) c) ∗ beside m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [held_all]
  unfold beside owesE Yk
  iintro ⟨Ha, -, ⟨Ho, -⟩, Hb, HO⟩
  isplitl [Ha Ho]; · isplitl [Ha] <;> iassumption
  isplitl [Hb] <;> iassumption

theorem unscoped_eq : ∀ sm : SemLoc sig, sm.isScoped .tc = false → sm = .reg barS := by decide

set_option backward.isDefEq.respectTransparency.types false in
/-- From any memory, every fair run of the program ends with its arguments as they were, the result it names, and every
    semaphore at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v45) = V3 m (outs m) c main_v45) ∧ r.2.sem = fun _ => 0) :=
  Pipeline.θ_run_regions_kit_dev_sems (pcfgs (F := F)) adm (pdats m) () cellOf_inj EP defs₀ 𝒱₀ L lv m ρ main
    (segs m (outs m) 𝒱₀ L lv (beside m) () (pdats m) (region m))
    (fun c Q => by
      rewrite [main_chain c, Pipeline.Seg.run_eq_chain,
        show (segs m (outs m) 𝒱₀ L lv (beside m) () (pdats m) (region m) c).map Pipeline.Seg.prog = [
          StableHlo.seq (hostOps0 c),
          Prog.lift (.customCall (Pipeline.entry 0) ()),
          StableHlo.seq hostOps1 ] from rfl]
      exact .rfl)
    (fun c => by simp only [segs, Pipeline.Seg.pipes_host, Pipeline.Seg.pipes_region, Pipeline.Seg.pipes_nil]; decide) O₀ L_of_ne
    (parked (F := F)) (u₀ (F := F))
    (by
      unfold u₀
      iintro Hu
      ihave H := (ownU_pair _ _) $$ Hu
      icases H with ⟨HP, HX⟩
      imodintro
      isplitl [HP]; · iexact HP
      rw [bigSep_parked]; iexact HX)
    (T₀ := fun c => iprop(StableHlo.held (c : Thread nD τ) (Pipeline.ucRefs τ sig) (V0 m c) ∗ beside m 0 c))
    (Tₙ := fun c => iprop(StableHlo.held (c : Thread nD τ) (Pipeline.ucRefs τ sig) (V3 m (outs m) c) ∗ semVal (barC c) 0))
    (hch := fun c => ⟨.rfl, region_pre m c, region_post m c, by
      show iprop(StableHlo.held (c : Thread nD τ) (Pipeline.ucRefs τ sig) (V3 m (outs m) c) ∗ (semVal (barC c) 0 ∗ owesE (F := F) c 0)) ⊢ _
      unfold owesE
      iintro ⟨Hh, Hb, HO⟩
      isplitr [HO]
      · isplitl [Hh] <;> iassumption
      · iexact HO⟩)
    (hinit := launch m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_v45) = V3 m (outs m) c main_v45) ∧ s.sem (barC c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans (V3_main_arg0 m (outs m) c),
          (h (Proc.devRef .tc main_arg1) (Finset.mem_filter.mpr ⟨StableHlo.devRef_mem_tcRefs main_arg1, by decide⟩)).trans (V3_main_arg1 m (outs m) c),
          (h (Proc.devRef .tc main_arg2) (Finset.mem_filter.mpr ⟨StableHlo.devRef_mem_tcRefs main_arg2, by decide⟩)).trans (V3_main_arg2 m (outs m) c),
          (h (Proc.devRef .tc main_arg3) (Finset.mem_filter.mpr ⟨StableHlo.devRef_mem_tcRefs main_arg3, by decide⟩)).trans (V3_main_arg3 m (outs m) c),
          h (Proc.devRef .tc main_v45) (Finset.mem_filter.mpr ⟨StableHlo.devRef_mem_tcRefs main_v45, by decide⟩)⟩, by simpa using hb⟩
      · iexact HSI)
    (hQ := fun s h hs => ⟨fun c => (h c).1, sem_eq_zero hs fun c sm hsm => by
      obtain rfl := unscoped_eq sm hsm
      exact (h c).2⟩)

end Cert.KernelIdeal.Scan

end
-- ==== Proof.Frames.lean ====
module

public import proofs.«01_k».proof.Defs
public import proofs.«01_k».proof.Proof.Launch
public import proofs.«01_k».proof.Proof.Gen.Kernel

@[expose] public section

noncomputable section

namespace Cert.Proof

open Idealize.ShloMosaic Idealize.SL.Sem

set_option maxRecDepth 65536

/-- Both programs print the same kernel body, so their procedures without the pipeline agree. -/
theorem defs₀_eq : Cert.Kernel.defs₀ (F := Bits) = Cert.KernelIdeal.defs₀ (F := Bits) := by
  unfold Cert.Kernel.defs₀ Cert.KernelIdeal.defs₀
  congr 1
  funext l a
  obtain ⟨l, hl⟩ := l
  cases l with
  | zero =>
    obtain ⟨t, s⟩ := a
    exact rfl
  | succ n => exact absurd hl (Nat.not_lt.2 (Nat.le_add_left _ _))

/-- … and so do the procedures with it. -/
theorem defs_eq : Cert.Kernel.defs (F := Bits) = Cert.KernelIdeal.defs (F := Bits) := by
  show Pipeline.defs (Cert.Kernel.pcfgs (F := Bits)) (Cert.Kernel.defs₀ (F := Bits)) = _
  rw [defs₀_eq]
  exact rfl

/-- The idealized kernel ends, its arguments unchanged and its semaphores at zero. -/
theorem frame_ideal : Cert.quiescent_KernelIdeal_pre_none := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Scan.run_main (F := Ideal) m ρ)

theorem frame_ideal_pre [hPre : Cert.Pre_finite_KernelIdeal.Facts] : Cert.quiescent_KernelIdeal :=
  fun m ρ _ => frame_ideal m ρ True.intro

set_option maxHeartbeats 4000000 in
/-- Both programs print the same main procedure. -/
theorem main_eq : Cert.Kernel.main (F := Bits) = Cert.KernelIdeal.main (F := Bits) := rfl

set_option maxHeartbeats 4000000 in
/-- The same run, read at the words. -/
theorem frame_kernel : Cert.quiescent_Kernel := fun m ρ _ =>
  (congrArg₂ (fun D p => θ_run D (onTc p) _ _) defs_eq main_eq).mpr
    ((θ_run Cert.KernelIdeal.defs _ _).mono
      (fun _ h => ⟨fun c => ⟨(h.1 c).1, (h.1 c).2.1, (h.1 c).2.2.1, (h.1 c).2.2.2.1⟩, h.2⟩)
      (Cert.KernelIdeal.Scan.run_main (F := Bits) m ρ))

end Cert.Proof

end
-- ==== Proof.Finite.lean ====
/-
  What the precondition says: every element of every argument is a real number.
-/
module

public import proofs.«01_k».proof.Defs
public import Idealize.ShloMosaic.Lib.ReduceAll
public import Idealize.ShloMosaic.Lib.Pointwise

@[expose] public section

noncomputable section

namespace Cert.Finite

open Idealize.ShloMosaic Idealize.SL.Sem

/-- The predicate's shape relations hold. -/
instance facts_Kernel : Cert.Pre_finite_KernelIdeal.Facts := by
  constructor <;> decide
instance facts_Reference : Cert.Pre_finite_ReferenceIdeal.Facts := by
  constructor <;> decide

theorem ofBits_inf : Ideal.ofBits .f32 0x7F800000#32 = (⊤ : EReal) := by
  simp [Ideal.ofBits, Ideal.ieee]

/-- An extended real whose absolute value is below the positive infinity is a real. -/
theorem real_of_abs_lt (x : Ideal .f32) (h : FloatOps.cmpf (F := Ideal) .olt (FloatOps.absf x) (Ideal.ofBits .f32 0x7F800000#32) = 1#1) :
    (x : EReal) = ((EReal.toReal x : ℝ) : EReal) := by
  rw [ofBits_inf] at h
  change Ideal.cmp .olt (max (x : EReal) (-x)) ⊤ = 1#1 at h
  have hlt : max (x : EReal) (-x) < ⊤ := by
    by_contra hn
    simp [Ideal.cmp, hn] at h
  have h1 : (x : EReal) < ⊤ := lt_of_le_of_lt (le_max_left _ _) hlt
  have h2 : -(x : EReal) < ⊤ := lt_of_le_of_lt (le_max_right _ _) hlt
  refine (EReal.coe_toReal h1.ne fun hb => ?_).symm
  rw [hb] at h2
  exact absurd h2 (by simp)

/-- An array of which all elements pass. -/
theorem real_of_all {s t : Shape} {axes : List (Fin s.rank)} [Subsingleton t.Idx] (a : FVec Ideal s .bf16) (hb : FTy.bits .bf16 < FTy.bits .f32)
    (hc : (⟨0, ![]⟩ : Shape).BroadcastsInDim s (![] : Fin 0 → Fin s.rank)) (hr : s.ReducesTo axes t) (hu : 0 < (⟨0, ![]⟩ : Shape).numel) (j : t.Idx)
    (h : Host.reduce IntOp.andi (cmpf .olt (Host.absf (extf .f32 a hb)) (broadcastInDim s ![] hc (constant (F := Ideal) ⟨0, ![]⟩ .f32 0x7F800000#32)))
      (constantI ⟨0, ![]⟩ 1 1#1) hr hu j = 1#1) (i : s.Idx) : (a i : EReal) = ((EReal.toReal (a i) : ℝ) : EReal) :=
  real_of_abs_lt _ (Host.reduce_andi_all _ _ hr hu j h i)

open Cert.Pre_finite_KernelIdeal

instance : Subsingleton S_.Idx := ⟨fun a b => funext fun k => k.elim0⟩

variable [hF : Cert.Pre_finite_KernelIdeal.Facts] (a0 : FVec Ideal S4x1024x1024 .bf16) (a1 : FVec Ideal S1024x32 .bf16) (a2 a3 : FVec Ideal S4x1024x32 .bf16)

theorem real0 (h : (fn (F := Ideal) a0 a1 a2 a3).1 = (fun _ => 1#1)) (i : S4x1024x1024.Idx) : (a0 i : EReal) = ((EReal.toReal (a0 i) : ℝ) : EReal) := by
  have e := congrFun h (Shape.Idx.first hF.h_S_)
  unfold fn fn_part1 at e
  dsimp only at e
  exact real_of_all a0 hF.bitsLt_bf16_f32 hF.bcast_S_S4x1024x1024 hF.reducesTo_S4x1024x1024_S_d0_1_2 hF.h_S_ (Shape.Idx.first hF.h_S_) e i

theorem real1 (h : (fn (F := Ideal) a0 a1 a2 a3).2.1 = (fun _ => 1#1)) (i : S1024x32.Idx) : (a1 i : EReal) = ((EReal.toReal (a1 i) : ℝ) : EReal) := by
  have e := congrFun h (Shape.Idx.first hF.h_S_)
  unfold fn fn_part1 at e
  dsimp only at e
  exact real_of_all a1 hF.bitsLt_bf16_f32 hF.bcast_S_S1024x32 hF.reducesTo_S1024x32_S_d0_1 hF.h_S_ (Shape.Idx.first hF.h_S_) e i

theorem real2 (h : (fn (F := Ideal) a0 a1 a2 a3).2.2.1 = (fun _ => 1#1)) (i : S4x1024x32.Idx) : (a2 i : EReal) = ((EReal.toReal (a2 i) : ℝ) : EReal) := by
  have e := congrFun h (Shape.Idx.first hF.h_S_)
  unfold fn fn_part1 at e
  dsimp only at e
  exact real_of_all a2 hF.bitsLt_bf16_f32 hF.bcast_S_S4x1024x32 hF.reducesTo_S4x1024x32_S_d0_1_2 hF.h_S_ (Shape.Idx.first hF.h_S_) e i

theorem real3 (h : (fn (F := Ideal) a0 a1 a2 a3).2.2.2 = (fun _ => 1#1)) (i : S4x1024x32.Idx) : (a3 i : EReal) = ((EReal.toReal (a3 i) : ℝ) : EReal) := by
  have e := congrFun h (Shape.Idx.first hF.h_S_)
  unfold fn fn_part1 at e
  dsimp only at e
  exact real_of_all a3 hF.bitsLt_bf16_f32 hF.bcast_S_S4x1024x32 hF.reducesTo_S4x1024x32_S_d0_1_2 hF.h_S_ (Shape.Idx.first hF.h_S_) e i

end Cert.Finite

end
-- ==== Proof.KernelAt.lean ====
/-
  What a device's kernel computes, at the ideal values, read at an index.
-/
module

public import proofs.«01_k».proof.Proof.Values
public import Idealize.ShloMosaic.Lib.Pointwise

@[expose] public section

noncomputable section

namespace Cert.KernelIdeal.Scan

open Idealize.ShloMosaic Idealize.SL.Sem Cert.KernelIdeal.Gen

/-- A part of a whole array read at an index. -/
theorem read_part {b : Ref sig .tc} (off size : Fin b.ty.shape.rank → ℕ) (inb) (f : b.ty.Contents (Elt Ideal))
    (j : (⟨b.ty.shape.rank, size⟩ : Shape).Idx) (k : b.ty.shape.Idx) (hk : ∀ a, (k a).val = off a + (j a).val) :
    (((Memref.whole b).access (Rect.unit (s := b.ty.shape) off size inb)).read (Elt Ideal) f) j = f k := by
  refine congrArg f (funext fun a => Fin.ext ?_)
  exact (ValueKit.view_emb_slice_whole_unit_val b _ _ _ j a).trans (hk a).symm

variable (I : Ins Ideal)

theorem da_apply (n : Fin 32) (j : Fin 512) : da I (ix3 0 n j) = I.dA (ix2 n j) := by
  unfold da
  pointwise [k0_pay673]
  refine read_part _ _ _ _ _ _ fun a => ?_
  fin_cases a <;> exact (Nat.zero_add _).symm

theorem xs_apply (q : Fin 32) (k : Fin 32) (b : Fin 4) (j : Fin 512) :
    xs I q (ix3 k b j) = I.x (ix3 ⟨32 * q.val + k.val, by omega⟩ b j) := by
  unfold xs
  pointwise [k0_pay1]
  refine read_part _ _ _ _ _ _ fun a => ?_
  fin_cases a
  · rfl
  all_goals exact (Nat.zero_add _).symm

theorem bs_apply (q : Fin 32) (k : Fin 32) (b : Fin 4) (n : Fin 32) :
    bs I q (ix4 k b n 0) = I.b (ix3 ⟨32 * q.val + k.val, by omega⟩ b n) := by
  unfold bs
  pointwise [k0_pay2]
  refine read_part _ _ _ _ _ _ fun a => ?_
  fin_cases a
  · rfl
  all_goals exact (Nat.zero_add _).symm

theorem cs_apply (q : Fin 32) (k : Fin 32) (b : Fin 4) (n : Fin 32) :
    cs I q (ix3 k b n) = I.c (ix3 ⟨32 * q.val + k.val, by omega⟩ b n) := by
  unfold cs
  pointwise [k0_pay3]
  refine read_part _ _ _ _ _ _ fun a => ?_
  fin_cases a
  · rfl
  all_goals exact (Nat.zero_add _).symm

theorem stepV_apply (da : FVec Ideal S1x32x512 .bf16) (xs : FVec Ideal S32x4x512 .bf16) (bs : FVec Ideal S32x4x32x1 .bf16) (k : ℕ) (hk : k < 32)
    (h : FVec Ideal S4x32x512 .bf16) (b : Fin 4) (n : Fin 32) (j : Fin 512) :
    stepV da xs bs k hk h (ix3 b n j) = h (ix3 b n j) * da (ix3 0 n j) + xs (ix3 ⟨k, hk⟩ b j) * bs (ix4 ⟨k, hk⟩ b n 0) := by
  pointwise [stepV, xRow, bRow]

theorem rowV_apply (cs : FVec Ideal S32x4x32 .bf16) (k : ℕ) (hk : k < 32) (h : FVec Ideal S4x32x512 .bf16) (b : Fin 4) (j : Fin 512) :
    rowV cs k hk h (ix3 0 b j) = ∑ n : Fin 32, cs (ix3 ⟨k, hk⟩ b n) * h (ix3 b n j) := by
  pointwise [rowV, dot_S4x32_S4x32x512_S4x512_1_1_n_2_0_0]

theorem decayV_apply (da : FVec Ideal S1x32x512 .bf16) (hc : FVec Ideal S4x4x32x512 .bf16) (g b : Fin 4) (n : Fin 32) (j : Fin 512) :
    decayV da hc (ix4 g b n j) = hc (ix4 g b n j) * da (ix3 0 n j) := by
  pointwise [decayV]

theorem corrRow_apply (y : FVec Ideal S1x4x512 .bf16) (c : Vec Ideal S1x4x32 .bf16) (hc : FVec Ideal S4x4x32x512 .bf16) (g : ℕ) (hg : g < 4)
    (b : Fin 4) (j : Fin 512) :
    corrRow y c hc g hg (ix3 0 b j) = y (ix3 0 b j) + ∑ n : Fin 32, c (ix3 0 b n) * hc (ix4 ⟨g, hg⟩ b n j) := by
  pointwise [corrRow, dot_S4x32_S4x32x512_S4x512_1_1_n_2_0_0]

theorem hAt_zero_apply (b : Fin 4) (n : Fin 32) (j : Fin 512) : hAt I 0 (ix3 b n j) = 0 := by
  rw [hAt_zero]
  pointwise [k0_pay674]

theorem lastState_apply (b : Fin 4) (n : Fin 32) (j : Fin 512) : lastState I (ix3 b n j) = hAt I 1024 (ix3 b n j) := by
  unfold lastState
  pointwise [k0_pay699]

theorem cAt_zero_apply (g : Vec Ideal S4x32x512 .bf16) (gr b : Fin 4) (n : Fin 32) (j : Fin 512) :
    cAt I g 0 (ix4 gr b n j) = g (ix3 b n j) * I.p (ix3 gr n j) := by
  unfold cAt
  pointwise [k0_pay700]
  congr 1
  · refine read_part _ _ _ _ _ _ fun a => ?_
    fin_cases a <;> exact (Nat.zero_add _).symm
  · refine read_part _ _ _ _ _ _ fun a => ?_
    fin_cases a <;> exact (Nat.zero_add _).symm

theorem cRow_apply (t : Fin 1024) (b : Fin 4) (n : Fin 32) : cRow I t (ix3 0 b n) = I.c (ix3 t b n) := by
  unfold cRow
  refine read_part _ _ _ _ _ _ fun a => ?_
  fin_cases a
  · rfl
  all_goals exact (Nat.zero_add _).symm

end Cert.KernelIdeal.Scan

end
-- ==== Proof.Spec.lean ====
/-
  The scan over the reals: a state that each step multiplies by `a` and adds the step's input to, and its row of results.
-/
module

public import Idealize.ShloMosaic.PureOps.Ideal
public import Mathlib.Analysis.SpecialFunctions.Exp

@[expose] public section

noncomputable section

namespace Cert.Scan

/-- The state after `t` steps from zero, of the inputs `u`. -/
def st (a : ℝ) (u : ℕ → ℝ) : ℕ → ℝ
  | 0 => 0
  | t + 1 => st a u t * a + u t

/-- Of the first `k + t` steps, the first `k` count through the state they leave, which the others decay. -/
theorem st_add (a : ℝ) (u : ℕ → ℝ) (k : ℕ) : ∀ t, st a u (k + t) = st a (fun i => u (k + i)) t + st a u k * a ^ t
  | 0 => by simp [st]
  | t + 1 => by
    show st a u (k + t) * a + u (k + t) = (st a (fun i => u (k + i)) t * a + u (k + t)) + st a u k * a ^ (t + 1)
    rw [st_add a u k t, pow_succ]; ring

/-- Steps without input leave the state zero. -/
theorem st_zero (a : ℝ) (u : ℕ → ℝ) : ∀ t, (∀ i < t, u i = 0) → st a u t = 0
  | 0, _ => rfl
  | t + 1, h => by
    show st a u t * a + u t = 0
    rw [st_zero a u t fun i hi => h i (by omega), h t (by omega)]; ring

/-- The state of a step reads only the inputs before it. -/
theorem st_congr (a : ℝ) (u v : ℕ → ℝ) : ∀ t, (∀ i < t, u i = v i) → st a u t = st a v t
  | 0, _ => rfl
  | t + 1, h => by
    show st a u t * a + u t = st a v t * a + v t
    rw [st_congr a u v t fun i hi => h i (by omega), h t (by omega)]

/-- The arguments, as real functions: x by batch, position and channel; A by channel and state; B and C by batch, position and state. -/
structure Args where
  X : Fin 4 → ℕ → Fin 1024 → ℝ
  A : Fin 1024 → Fin 32 → ℝ
  B : Fin 4 → ℕ → Fin 32 → ℝ
  C : Fin 4 → ℕ → Fin 32 → ℝ

namespace Args

variable (R : Args)

/-- The input of position `t`; without the positions before 1024 when `late`. -/
def u (late : Bool) (b : Fin 4) (d : Fin 1024) (n : Fin 32) (t : ℕ) : ℝ :=
  (if late = true ∧ t < 1024 then 0 else R.X b t d) * R.B b t n

/-- The state after the first `t` positions. -/
def h (late : Bool) (b : Fin 4) (d : Fin 1024) (n : Fin 32) (t : ℕ) : ℝ :=
  st (Real.exp (R.A d n)) (R.u late b d n) t

/-- The result at position `t`. -/
def y (late : Bool) (b : Fin 4) (t : ℕ) (d : Fin 1024) : ℝ :=
  ∑ n : Fin 32, R.h late b d n (t + 1) * R.C b t n

end Args

/-- The coercion of a sum of reals. -/
theorem coe_sum {ι : Type} (s : Finset ι) (f : ι → ℝ) : ((∑ i ∈ s, f i : ℝ) : EReal) = ∑ i ∈ s, ((f i : ℝ) : EReal) :=
  map_sum (⟨⟨(fun r : ℝ => (r : EReal)), EReal.coe_zero⟩, EReal.coe_add⟩ : ℝ →+ EReal) f s

end Cert.Scan

end
-- ==== Proof.KernelScan.lean ====
/-
  What a device's kernel computes from real operands: the scan of its half of the positions, on its half of the channels.
-/
module

public import proofs.«01_k».proof.Proof.KernelAt
public import proofs.«01_k».proof.Proof.Spec

@[expose] public section

noncomputable section

namespace Cert.KernelIdeal.Scan

open Idealize.ShloMosaic Idealize.SL.Sem Cert.KernelIdeal.Gen Cert.Scan

/-- Channel `j` of half `f`. -/
def col (f : Fin 2) (j : Fin 512) : Fin 1024 := ⟨512 * f.val + j.val, by omega⟩

/-- The operands hold the real arguments of half `q` of the positions, on half `f` of the channels. -/
structure Ins.Holds (R : Cert.Scan.Args) (q f : Fin 2) (I : Ins Ideal) : Prop where
  x : ∀ (t : Fin 1024) (b : Fin 4) (j : Fin 512), I.x (ix3 t b j) = ((R.X b (1024 * q.val + t.val) (col f j) : ℝ) : EReal)
  dA : ∀ (n : Fin 32) (j : Fin 512), I.dA (ix2 n j) = ((Real.exp (R.A (col f j) n) : ℝ) : EReal)
  p : ∀ (g : Fin 4) (n : Fin 32) (j : Fin 512), I.p (ix3 g n j) = ((Real.exp (R.A (col f j) n) ^ (32 * g.val) : ℝ) : EReal)
  b : ∀ (t : Fin 1024) (b : Fin 4) (n : Fin 32), I.b (ix3 t b n) = ((R.B b (1024 * q.val + t.val) n : ℝ) : EReal)
  c : ∀ (t : Fin 1024) (b : Fin 4) (n : Fin 32), I.c (ix3 t b n) = ((R.C b (1024 * q.val + t.val) n : ℝ) : EReal)

/-- The state after the first `t` positions of half `q`. -/
def hq (R : Cert.Scan.Args) (q : Fin 2) (b : Fin 4) (d : Fin 1024) (n : Fin 32) (t : ℕ) : ℝ :=
  st (Real.exp (R.A d n)) (fun i => R.X b (1024 * q.val + i) d * R.B b (1024 * q.val + i) n) t

variable {R : Cert.Scan.Args} {q f : Fin 2} {I : Ins Ideal}

theorem hAt_apply (H : I.Holds R q f) (b : Fin 4) (n : Fin 32) (j : Fin 512) :
    ∀ t, t ≤ 1024 → hAt I t (ix3 b n j) = ((hq R q b (col f j) n t : ℝ) : EReal)
  | 0, _ => (hAt_zero_apply I b n j).trans EReal.coe_zero.symm
  | t + 1, ht => by
    have hd : 32 * (t / 32) + t % 32 = t := by omega
    have hx := xs_apply I ⟨t / 32, by omega⟩ ⟨t % 32, Nat.mod_lt _ (by decide)⟩ b j
    have hb := bs_apply I ⟨t / 32, by omega⟩ ⟨t % 32, Nat.mod_lt _ (by decide)⟩ b n
    rw [H.x] at hx
    rw [H.b] at hb
    simp only [hd] at hx hb
    rw [hAt, dif_pos (by omega), stepV_apply, hAt_apply H b n j t (by omega), da_apply, H.dA, hx, hb,
      ← EReal.coe_mul, ← EReal.coe_mul, ← EReal.coe_add]
    rfl

theorem rowAt_apply (H : I.Holds R q f) (t : ℕ) (ht : t < 1024) (b : Fin 4) (j : Fin 512) :
    rowAt I t ht (ix3 0 b j) = ((∑ n : Fin 32, hq R q b (col f j) n (t + 1) * R.C b (1024 * q.val + t) n : ℝ) : EReal) := by
  have hd : 32 * (t / 32) + t % 32 = t := by omega
  rw [rowAt, rowV_apply, coe_sum]
  refine Finset.sum_congr rfl fun n _ => ?_
  have hc := cs_apply I ⟨t / 32, by omega⟩ ⟨t % 32, Nat.mod_lt _ (by decide)⟩ b n
  rw [H.c] at hc
  simp only [hd] at hc
  rw [hc, hAt_apply H b n j (t + 1) (by omega), ← EReal.coe_mul, mul_comm]

/-- The carried state as it decays, group by group of 32 rows: `g` is the state the other device leaves. -/
theorem cAt_apply (H : I.Holds R q f) (g : Vec Ideal S4x32x512 .bf16) (s : Fin 4 → Fin 32 → Fin 512 → ℝ)
    (hg : ∀ b n j, g (ix3 b n j) = ((s b n j : ℝ) : EReal)) (gr b : Fin 4) (n : Fin 32) (j : Fin 512) :
    ∀ t, cAt I g t (ix4 gr b n j) = ((s b n j * Real.exp (R.A (col f j) n) ^ (32 * gr.val + t) : ℝ) : EReal)
  | 0 => by rw [cAt_zero_apply, hg, H.p, ← EReal.coe_mul]; rfl
  | t + 1 => by
    rw [cAt, decayV_apply, cAt_apply H g s hg gr b n j t, da_apply, H.dA, ← EReal.coe_mul, ← Nat.add_assoc, pow_succ, mul_assoc]

theorem fixRow_apply (H : I.Holds R q f) (g : Vec Ideal S4x32x512 .bf16) (s : Fin 4 → Fin 32 → Fin 512 → ℝ)
    (hg : ∀ b n j, g (ix3 b n j) = ((s b n j : ℝ) : EReal)) (t : Fin 128) (b : Fin 4) (j : Fin 512) :
    fixRow I g t (ix3 0 b j) = ((∑ n : Fin 32, (hq R q b (col f j) n (t.val + 1)
      + s b n j * Real.exp (R.A (col f j) n) ^ (t.val + 1)) * R.C b (1024 * q.val + t.val) n : ℝ) : EReal) := by
  have hd : 32 * (t.val / 32) + (t.val % 32 + 1) = t.val + 1 := by omega
  have hsum : ∑ n : Fin 32, cRow I ⟨t.val, by omega⟩ (ix3 0 b n) * cAt I g (t.val % 32 + 1) (ix4 ⟨t.val / 32, by omega⟩ b n j)
      = ((∑ n : Fin 32, s b n j * Real.exp (R.A (col f j) n) ^ (t.val + 1) * R.C b (1024 * q.val + t.val) n : ℝ) : EReal) := by
    rw [coe_sum]
    refine Finset.sum_congr rfl fun n _ => ?_
    rw [cRow_apply, H.c, cAt_apply H g s hg, ← EReal.coe_mul, mul_comm]
    simp only [hd]
  rw [fixRow, corrRow_apply, rowAt_apply H, hsum, ← EReal.coe_add, ← Finset.sum_add_distrib]
  congr 1
  exact Finset.sum_congr rfl fun n _ => (add_mul _ _ _).symm

theorem inRow_ix3 (t : Fin 1024) (b : Fin 4) (j : Fin 512) (f : Fin 2) : inRow (ix3 t b (col f j)) = ix3 0 b j := by
  funext a
  fin_cases a
  · rfl
  · rfl
  · exact Fin.ext (show (512 * f.val + j.val) % 512 = j.val by omega)

/-- The first half's rows: the scan. -/
theorem own_first (H : I.Holds R 0 f) (t : Fin 1024) (b : Fin 4) (j : Fin 512) :
    own I (ix3 t b (col f j)) = ((R.y false b t.val (col f j) : ℝ) : EReal) := by
  show rowAt I t.val t.isLt (inRow (ix3 t b (col f j))) = _
  rw [inRow_ix3, rowAt_apply H]
  congr 1
  refine Finset.sum_congr rfl fun n _ => ?_
  simp only [Fin.val_zero, Nat.mul_zero, Nat.zero_add]
  congr 1
  exact st_congr _ _ _ _ fun i _ => by simp [Cert.Scan.Args.u]

/-- A position of the second half scans the whole sequence: its own part, and what the first half leaves, decayed. -/
theorem h_second (R : Cert.Scan.Args) (b : Fin 4) (d : Fin 1024) (n : Fin 32) (t : ℕ) :
    R.h false b d n (1024 + t) = hq R 1 b d n t + hq R 0 b d n 1024 * Real.exp (R.A d n) ^ t := by
  have e0 : st (Real.exp (R.A d n)) (R.u false b d n) 1024 = hq R 0 b d n 1024 := by
    unfold hq
    exact st_congr _ _ _ _ fun i _ => by simp [Cert.Scan.Args.u]
  have e1 : st (Real.exp (R.A d n)) (fun i => R.u false b d n (1024 + i)) t = hq R 1 b d n t := by
    unfold hq
    exact st_congr _ _ _ _ fun i _ => by simp [Cert.Scan.Args.u]
  unfold Cert.Scan.Args.h
  rw [st_add, e0, e1]

/-- Without the first half, only its own part. -/
theorem h_late (R : Cert.Scan.Args) (b : Fin 4) (d : Fin 1024) (n : Fin 32) (t : ℕ) :
    R.h true b d n (1024 + t) = hq R 1 b d n t := by
  unfold Cert.Scan.Args.h
  rw [st_add, st_zero _ (R.u true b d n) 1024 (fun i hi => by simp [Cert.Scan.Args.u, hi]), zero_mul, add_zero]
  exact st_congr _ _ _ _ fun i _ => by simp [Cert.Scan.Args.u]

/-- The second half's rows, once corrected by what the first half leaves. -/
theorem fixed_second {J : Ins Ideal} (H : I.Holds R 1 f) (HJ : J.Holds R 0 f) (t : Fin 1024) (b : Fin 4) (j : Fin 512) :
    fixed I (lastState J) (ix3 t b (col f j)) = ((R.y (decide (1152 ≤ 1024 + t.val)) b (1024 + t.val) (col f j) : ℝ) : EReal) := by
  have hg : ∀ b n j, lastState J (ix3 b n j) = ((hq R 0 b (col f j) n 1024 : ℝ) : EReal) := fun b n j => by
    rw [lastState_apply, hAt_apply HJ b n j 1024 le_rfl]
  by_cases ht : t.val < 128
  · have e : fixed I (lastState J) (ix3 t b (col f j)) = fixRow I (lastState J) ⟨t.val, ht⟩ (inRow (ix3 t b (col f j))) := dif_pos ht
    rw [e, inRow_ix3, fixRow_apply H _ _ hg, decide_eq_false (show ¬1152 ≤ 1024 + t.val by omega)]
    congr 1
    refine Finset.sum_congr rfl fun n _ => ?_
    rw [← h_second]
    rfl
  · have e : fixed I (lastState J) (ix3 t b (col f j)) = rowAt I t.val t.isLt (inRow (ix3 t b (col f j))) := dif_neg ht
    rw [e, inRow_ix3, rowAt_apply H, decide_eq_true (show 1152 ≤ 1024 + t.val by omega)]
    congr 1
    refine Finset.sum_congr rfl fun n _ => ?_
    rw [← h_late]
    rfl

end Cert.KernelIdeal.Scan

end
-- ==== Proof.KernelHost.lean ====
/-
  The operands the host hands the kernel, at the ideal values, read at an index.
-/
module

public import proofs.«01_k».proof.Proof.Region
public import proofs.«01_k».proof.Proof.KernelScan
public import Idealize.ShloMosaic.Lib.Pointwise
public import Idealize.ShloMosaic.Lib.DynamicIndex
public import Idealize.ShloMosaic.Lib.StableHlo.RunRead

@[expose] public section

noncomputable section

namespace Cert.KernelIdeal.Scan

open Idealize.ShloMosaic Idealize.ShloMosaic.TcCoe Idealize.SL.Sem Cert.KernelIdeal.Gen Cert.Scan
open Idealize.ShloMosaic.StableHlo

/-! ## As expressions over the arguments -/

/-- The first channel of the device's half. -/
def first (c : Dev nD) : IVec S_ 32 :=
  muli (Host.remui (Host.divui (constantI S_ 32 (Dev.word c)) (constantI S_ 32 1#32)) (constantI S_ 32 2#32)) (constantI S_ 32 512#32)

/-- The same as an index: a negative one counts from the end. -/
def start (c : Dev nD) : IVec S_ 32 :=
  select (cmpi .slt (first c) (constantI S_ 32 0#32)) (addi (first c) (constantI S_ 32 1024#32)) (first c)

/-- `exp A`, transposed. -/
def expA (a : FVec Ideal S1024x32 .bf16) : FVec Ideal S32x1024 .bf16 :=
  transpose S32x1024 [1, 0] (Host.exp a) transposes_S1024x32_S32x1024_1_0

/-- `exp (A · k)`, transposed, of the constant `k` of bits `w`. -/
def expAk (a : FVec Ideal S1024x32 .bf16) (w : BitVec 16) : FVec Ideal S1x32x1024 .bf16 :=
  broadcastInDim S1x32x1024 ![1, 2] bcast_S32x1024_S1x32x1024_1_2
    (Host.exp (mulf (transpose S32x1024 [1, 0] a transposes_S1024x32_S32x1024_1_0)
      (broadcastInDim S32x1024 ![] bcast_S_S32x1024 (constant (F := Ideal) S_ .bf16 w))))

/-- The four of them, stacked. -/
def powers (a : FVec Ideal S1024x32 .bf16) : FVec Ideal S4x32x1024 .bf16 :=
  concatenate S4x32x1024 0 [⟨S1x32x1024, expAk a 0x0000#16⟩, ⟨S1x32x1024, expAk a 0x4200#16⟩, ⟨S1x32x1024, expAk a 0x4280#16⟩, ⟨S1x32x1024, expAk a 0x42C0#16⟩]
    concatenates_S1x32x1024_S1x32x1024_S1x32x1024_S1x32x1024_S4x32x1024_d0

section
variable (m : (l : Loc nD τ sig) → Buf (Elt Ideal) l) (c : Dev nD)

theorem v17_eq : V1 m c main_v17 = transpose S1024x4x32 [1, 0, 2] (m ((c : Thread nD τ).loc main_arg2)) transposes_S4x1024x32_S1024x4x32_1_0_2 := by
  after_reads_simp

theorem v18_eq : V1 m c main_v18 = transpose S1024x4x32 [1, 0, 2] (m ((c : Thread nD τ).loc main_arg3)) transposes_S4x1024x32_S1024x4x32_1_0_2 := by
  after_reads_simp

theorem v11_eq : V1 m c main_v11 = Host.dynamicSlice S32x512 (expA (m ((c : Thread nD τ).loc main_arg1)))
    (fun k => ((![constantI S_ 32 0#32, start c] : Fin 2 → IVec S_ 32) k (Shape.Idx.first h_S_)).toInt) sliceFits_S32x1024_S32x512 := by
  after_reads_simp [unaryIndexed_result_read, indexContents_cons, indexContents_empty]
  rfl

theorem v16_eq : V1 m c main_v16 = Host.dynamicSlice S1024x4x512
    (transpose S1024x4x1024 [1, 0, 2] (m ((c : Thread nD τ).loc main_arg0)) transposes_S4x1024x1024_S1024x4x1024_1_0_2)
    (fun k => ((![constantI S_ 32 0#32, constantI S_ 32 0#32, start c] : Fin 3 → IVec S_ 32) k (Shape.Idx.first h_S_)).toInt)
    sliceFits_S1024x4x1024_S1024x4x512 := by
  after_reads_simp [unaryIndexed_result_read, indexContents_cons, indexContents_empty]
  rfl

theorem v43_eq : V1 m c main_v43 = Host.dynamicSlice S4x32x512 (powers (m ((c : Thread nD τ).loc main_arg1)))
    (fun k => ((![constantI S_ 32 0#32, constantI S_ 32 0#32, start c] : Fin 3 → IVec S_ 32) k (Shape.Idx.first h_S_)).toInt)
    sliceFits_S4x32x1024_S4x32x512 := by
  after_reads_simp [unaryIndexed_result_read, indexContents_cons, indexContents_empty]
  rfl

end

/-! ## At an index -/

theorem start_toInt (c : Dev nD) (i : S_.Idx) : (start c i).toInt = ((512 * (c.val % 2) : ℕ) : ℤ) := by
  have hc : c = 0 ∨ c = 1 ∨ c = 2 ∨ c = 3 := by revert c; decide
  have h : first c i = BitVec.ofNat 32 (512 * (c.val % 2)) := by
    show IntOp.muli (IntOp.remui .scalar (IntOp.divui .scalar (Dev.word c) 1#32) 2#32) 512#32 = _
    simp only [IntOp.muli, IntOp.remui, IntOp.divui]
    rw [if_neg (by decide), if_neg (by decide)]
    obtain rfl | rfl | rfl | rfl := hc <;> decide
  unfold start
  rw [select_slt_zero_of_nonneg _ _ _ i (by rw [h, toInt_ofNat_of_lt (by omega)]; omega), h, toInt_ofNat_of_lt (by omega)]

theorem zero_toInt (i : S_.Idx) : (constantI S_ 32 0#32 i).toInt = ((0 : ℕ) : ℤ) := rfl

theorem expA_apply (a : FVec Ideal S1024x32 .bf16) (n : Fin 32) (d : Fin 1024) : expA a (ix2 n d) = Ideal.exp (a (ix2 d n)) := by
  pointwise [expA]

theorem expAk_apply (a : FVec Ideal S1024x32 .bf16) (w : BitVec 16) (n : Fin 32) (d : Fin 1024) :
    expAk a w (ix3 0 n d) = Ideal.exp (a (ix2 d n) * Ideal.ofBits .bf16 w) := by
  pointwise [expAk]

/-- `exp (x · k)` is `(exp x)^k`. -/
theorem exp_mul_nat (r : ℝ) (k : ℕ) : Ideal.exp ((r : EReal) * (((k : ℕ) : ℝ) : EReal)) = ((Real.exp r ^ k : ℝ) : EReal) := by
  rw [← EReal.coe_mul]
  show ((Real.exp (r * k) : ℝ) : EReal) = _
  rw [mul_comm, Real.exp_nat_mul]

theorem ofBits_0 : Ideal.ofBits .bf16 0x0000#16 = (((0 : ℕ) : ℝ) : EReal) := by
  simp [Ideal.ofBits, Ideal.ieee]
theorem ofBits_32 : Ideal.ofBits .bf16 0x4200#16 = (((32 : ℕ) : ℝ) : EReal) := by
  simp [Ideal.ofBits, Ideal.ieee]; rw [← EReal.coe_mul]; norm_num
theorem ofBits_64 : Ideal.ofBits .bf16 0x4280#16 = (((64 : ℕ) : ℝ) : EReal) := by
  simp [Ideal.ofBits, Ideal.ieee]; rw [← EReal.coe_mul]; norm_num
theorem ofBits_96 : Ideal.ofBits .bf16 0x42C0#16 = (((96 : ℕ) : ℝ) : EReal) := by
  simp [Ideal.ofBits, Ideal.ieee]; rw [← EReal.coe_mul]; norm_num

theorem powers_apply (a : FVec Ideal S1024x32 .bf16) (g : Fin 4) (n : Fin 32) (d : Fin 1024) (r : ℝ) (hr : a (ix2 d n) = (r : EReal)) :
    powers a (ix3 g n d) = ((Real.exp r ^ (32 * g.val) : ℝ) : EReal) := by
  fin_cases g <;> pointwise [powers]
  · exact (expAk_apply a _ n d).trans (by rw [hr, ofBits_0, exp_mul_nat])
  · exact (expAk_apply a _ n d).trans (by rw [hr, ofBits_32, exp_mul_nat])
  · exact (expAk_apply a _ n d).trans (by rw [hr, ofBits_64, exp_mul_nat])
  · exact (expAk_apply a _ n d).trans (by rw [hr, ofBits_96, exp_mul_nat])

/-- The half of the channels a device computes. -/
def half (c : Dev nD) : Fin 2 := ⟨c.val % 2, Nat.mod_lt _ (by decide)⟩
/-- The half of the positions a device holds. -/
def seqHalf (c : Dev nD) : Fin 2 := ⟨c.val / 2, by have : c.val < 4 := c.isLt; omega⟩

/-- The arguments device `c` holds are the real arguments of its half of the positions. -/
structure Given (R : Cert.Scan.Args) (m : (l : Loc nD τ sig) → Buf (Elt Ideal) l) (c : Dev nD) : Prop where
  x : ∀ (b : Fin 4) (t : Fin 1024) (d : Fin 1024),
    (m ((c : Thread nD τ).loc main_arg0) : FVec Ideal S4x1024x1024 .bf16) (ix3 b t d) = ((R.X b (1024 * (seqHalf c).val + t.val) d : ℝ) : EReal)
  a : ∀ (d : Fin 1024) (n : Fin 32), (m ((c : Thread nD τ).loc main_arg1) : FVec Ideal S1024x32 .bf16) (ix2 d n) = ((R.A d n : ℝ) : EReal)
  b : ∀ (b : Fin 4) (t : Fin 1024) (n : Fin 32),
    (m ((c : Thread nD τ).loc main_arg2) : FVec Ideal S4x1024x32 .bf16) (ix3 b t n) = ((R.B b (1024 * (seqHalf c).val + t.val) n : ℝ) : EReal)
  c : ∀ (b : Fin 4) (t : Fin 1024) (n : Fin 32),
    (m ((c : Thread nD τ).loc main_arg3) : FVec Ideal S4x1024x32 .bf16) (ix3 b t n) = ((R.C b (1024 * (seqHalf c).val + t.val) n : ℝ) : EReal)

theorem off2 (c : Dev nD) : S32x1024.Slices ![0, 512 * (c.val % 2)] S32x512 :=
  ⟨rfl, fun a => by
    fin_cases a
    · exact Nat.le_refl 32
    · show 512 * (c.val % 2) + 512 ≤ 1024; omega⟩
theorem off3 (c : Dev nD) : S1024x4x1024.Slices ![0, 0, 512 * (c.val % 2)] S1024x4x512 :=
  ⟨rfl, fun a => by
    fin_cases a
    · exact Nat.le_refl 1024
    · exact Nat.le_refl 4
    · show 512 * (c.val % 2) + 512 ≤ 1024; omega⟩
theorem off4 (c : Dev nD) : S4x32x1024.Slices ![0, 0, 512 * (c.val % 2)] S4x32x512 :=
  ⟨rfl, fun a => by
    fin_cases a
    · exact Nat.le_refl 4
    · exact Nat.le_refl 32
    · show 512 * (c.val % 2) + 512 ≤ 1024; omega⟩

section
variable {R : Cert.Scan.Args} {m : (l : Loc nD τ sig) → Buf (Elt Ideal) l} {c : Dev nD} (G : Given R m c)
include G

theorem ins_x (t : Fin 1024) (b : Fin 4) (j : Fin 512) :
    (ins m c).x (ix3 t b j) = ((R.X b (1024 * (seqHalf c).val + t.val) (col (half c) j) : ℝ) : EReal) := by
  show V1 m c main_v16 (ix3 t b j) = _
  rw [v16_eq, Host.dynamicSlice_eq_extractStridedSlice _ _ _ _ _ (off3 c) (fun a => by
    fin_cases a
    · exact zero_toInt (Shape.Idx.first h_S_)
    · exact zero_toInt (Shape.Idx.first h_S_)
    · exact start_toInt c (Shape.Idx.first h_S_))]
  pointwise
  exact G.x b t (col (half c) j)

theorem ins_dA (n : Fin 32) (j : Fin 512) :
    (ins m c).dA (ix2 n j) = ((Real.exp (R.A (col (half c) j) n) : ℝ) : EReal) := by
  show V1 m c main_v11 (ix2 n j) = _
  rw [v11_eq, Host.dynamicSlice_eq_extractStridedSlice _ _ _ _ _ (off2 c) (fun a => by
    fin_cases a
    · exact zero_toInt (Shape.Idx.first h_S_)
    · exact start_toInt c (Shape.Idx.first h_S_))]
  pointwise
  exact (expA_apply _ n (col (half c) j)).trans (by rw [G.a]; rfl)

theorem ins_p (g : Fin 4) (n : Fin 32) (j : Fin 512) :
    (ins m c).p (ix3 g n j) = ((Real.exp (R.A (col (half c) j) n) ^ (32 * g.val) : ℝ) : EReal) := by
  show V1 m c main_v43 (ix3 g n j) = _
  rw [v43_eq, Host.dynamicSlice_eq_extractStridedSlice _ _ _ _ _ (off4 c) (fun a => by
    fin_cases a
    · exact zero_toInt (Shape.Idx.first h_S_)
    · exact zero_toInt (Shape.Idx.first h_S_)
    · exact start_toInt c (Shape.Idx.first h_S_))]
  pointwise
  exact powers_apply _ g n (col (half c) j) _ (G.a _ n)

theorem ins_b (t : Fin 1024) (b : Fin 4) (n : Fin 32) :
    (ins m c).b (ix3 t b n) = ((R.B b (1024 * (seqHalf c).val + t.val) n : ℝ) : EReal) := by
  show V1 m c main_v17 (ix3 t b n) = _
  rw [v17_eq]
  pointwise
  exact G.b b t n

theorem ins_c (t : Fin 1024) (b : Fin 4) (n : Fin 32) :
    (ins m c).c (ix3 t b n) = ((R.C b (1024 * (seqHalf c).val + t.val) n : ℝ) : EReal) := by
  show V1 m c main_v18 (ix3 t b n) = _
  rw [v18_eq]
  pointwise
  exact G.c b t n

theorem ins_holds : (ins m c).Holds R (seqHalf c) (half c) :=
  ⟨ins_x G, ins_dA G, ins_p G, ins_b G, ins_c G⟩

end

end Cert.KernelIdeal.Scan

end
-- ==== Proof.KernelValue.lean ====
/-
  What each device of the kernel ends holding, of real arguments: its half of the positions of the scan.
-/
module

public import proofs.«01_k».proof.Proof.KernelHost
public import proofs.«01_k».proof.Proof.Offsets

@[expose] public section

noncomputable section

namespace Cert.KernelIdeal.Scan

open Idealize.ShloMosaic Idealize.ShloMosaic.TcCoe Idealize.SL.Sem Cert.KernelIdeal.Gen Cert.Scan
open Idealize.ShloMosaic.StableHlo

variable {R : Cert.Scan.Args} {m : (l : Loc nD τ sig) → Buf (Elt Ideal) l}

/-- The results of half the channels, computed by device `e`. -/
theorem out_apply (G : ∀ c, Given R m c) (e : Dev nD) (t : Fin 1024) (b : Fin 4) (j : Fin 512) :
    out (ins m) e (ix3 t b (col (half e) j))
      = ((R.y (decide (1152 ≤ 1024 * (seqHalf e).val + t.val)) b (1024 * (seqHalf e).val + t.val) (col (half e) j) : ℝ) : EReal) := by
  have he : e.val < 4 := e.isLt
  have H := ins_holds (G e)
  by_cases h2 : e.val < 2
  · have hq : seqHalf e = 0 := Fin.ext (show e.val / 2 = 0 by omega)
    rw [hq] at H ⊢
    have hd : decide (1152 ≤ 1024 * (0 : Fin 2).val + t.val) = false := decide_eq_false (by show ¬1152 ≤ 1024 * 0 + t.val; omega)
    have hp : 1024 * (0 : Fin 2).val + t.val = t.val := by show 1024 * 0 + t.val = t.val; omega
    rw [hd, hp, out, if_pos h2, own_first H]
  · have hq : seqHalf e = 1 := Fin.ext (show e.val / 2 = 1 by omega)
    have hx : (xDev e).val = (e.val + 2) % 4 := xDev_val e
    have HJ := ins_holds (G (xDev e))
    have hq' : seqHalf (xDev e) = 0 := Fin.ext (show (xDev e).val / 2 = 0 by omega)
    have hh : half (xDev e) = half e := Fin.ext (show (xDev e).val % 2 = e.val % 2 by omega)
    rw [hq', hh] at HJ
    rw [hq] at H ⊢
    have hp : 1024 * (1 : Fin 2).val + t.val = 1024 + t.val := by show 1024 * 1 + t.val = _; omega
    rw [hp, out, if_neg h2, fixed_second H HJ]

theorem col_split (d : Fin 1024) (f : Fin 2) (h : d.val / 512 = f.val) : d = col f ⟨d.val % 512, Nat.mod_lt _ (by decide)⟩ :=
  Fin.ext (show d.val = 512 * f.val + d.val % 512 by omega)

theorem final_apply (G : ∀ c, Given R m c) (c : Dev nD) (t : Fin 1024) (b : Fin 4) (d : Fin 1024) :
    final (ins m) c (ix3 t b d)
      = ((R.y (decide (1152 ≤ 1024 * (seqHalf c).val + t.val)) b (1024 * (seqHalf c).val + t.val) d : ℝ) : EReal) := by
  have hc : c.val < 4 := c.isLt
  by_cases h : d.val / 512 = c.val % 2
  · have e : final (ins m) c (ix3 t b d) = out (ins m) c (ix3 t b d) := if_pos h
    rw [e, col_split d (half c) h, out_apply G]
  · have e : final (ins m) c (ix3 t b d) = out (ins m) (yDev c) (ix3 t b d) := if_neg h
    have hy : (yDev c).val = 2 * (c.val / 2) + (c.val + 1) % 2 := yDev_val c
    have hs : seqHalf (yDev c) = seqHalf c := Fin.ext (show (yDev c).val / 2 = c.val / 2 by omega)
    rw [e, col_split d (half (yDev c)) (show d.val / 512 = (yDev c).val % 2 by omega), out_apply G, hs]

theorem v45_eq (c : Dev nD) : V3 m (outs m) c main_v45
    = transpose S4x1024x1024 [1, 0, 2] (final (ins m) c) transposes_S1024x4x1024_S4x1024x1024_1_0_2 := by
  rw [← outs_v44 m c]
  after_reads_simp
  exact congrArg (fun v => transpose S4x1024x1024 [1, 0, 2] v transposes_S1024x4x1024_S4x1024x1024_1_0_2) (Function.update_self _ _ _)

theorem v45_apply (G : ∀ c, Given R m c) (c : Dev nD) (b : Fin 4) (t : Fin 1024) (d : Fin 1024) :
    (V3 m (outs m) c main_v45 : FVec Ideal S4x1024x1024 .bf16) (ix3 b t d)
      = ((R.y (decide (1152 ≤ 1024 * (seqHalf c).val + t.val)) b (1024 * (seqHalf c).val + t.val) d : ℝ) : EReal) := by
  rw [v45_eq]
  pointwise
  exact final_apply G c t b d

end Cert.KernelIdeal.Scan

end
-- ==== Proof.RefStep.lean ====
/-
  One trip of the reference's scan and its result, at the ideal values, read at an index.
-/
module

public import proofs.«01_k».proof.Proof.Gen.ReferenceIdeal.Step
public import Idealize.ShloMosaic.Lib.Pointwise
public import Idealize.ShloMosaic.Lib.DynamicIndex
public import Idealize.ShloMosaic.Lib.Pipeline.Value

@[expose] public section

noncomputable section

open Idealize.ShloMosaic

namespace Cert.ReferenceIdeal.Scan

open Cert.ReferenceIdeal Cert.ReferenceIdeal.Gen Cert.ReferenceIdeal.Step

/-- The row that trip `j` reads of the stacked x. -/
theorem b4_apply (j : ℕ) (hj : j < 2048) (s : State Ideal) (v : Fin 2) (b : Fin 4) (d : Fin 1024) :
    b4 j s (ix3 v b d) = s.main_v21_0 (ix4 ⟨j, hj⟩ v b d) := by
  have e : b3 j s = extractStridedSlice S1x2x4x1024 ![j, 0, 0, 0] s.main_v21_0
      ⟨rfl, fun a => by fin_cases a <;> simp [S1x2x4x1024, S2048x2x4x1024] <;> omega⟩ := by
    unfold b3
    refine Host.dynamicSlice_eq_extractStridedSlice _ _ _ _ _ _ fun a => ?_
    fin_cases a
    · exact toInt_ofNat_of_lt (by omega)
    all_goals rfl
  unfold b4
  rw [e]
  pointwise

/-- The row of B that it reads. -/
theorem b8_apply (j : ℕ) (hj : j < 2048) (s : State Ideal) (b : Fin 4) (n : Fin 32) :
    b8 j s (ix2 b n) = s.main_v21_1 (ix3 ⟨j, hj⟩ b n) := by
  have e : b7 j s = extractStridedSlice S1x4x32 ![j, 0, 0] s.main_v21_1
      ⟨rfl, fun a => by fin_cases a <;> simp [S1x4x32, S2048x4x32] <;> omega⟩ := by
    unfold b7
    refine Host.dynamicSlice_eq_extractStridedSlice _ _ _ _ _ _ fun a => ?_
    fin_cases a
    · exact toInt_ofNat_of_lt (by omega)
    all_goals rfl
  unfold b8
  rw [e]
  pointwise

/-- The row of C that it reads. -/
theorem b12_apply (j : ℕ) (hj : j < 2048) (s : State Ideal) (b : Fin 4) (n : Fin 32) :
    b12 j s (ix2 b n) = s.main_v21_2 (ix3 ⟨j, hj⟩ b n) := by
  have e : b11 j s = extractStridedSlice S1x4x32 ![j, 0, 0] s.main_v21_2
      ⟨rfl, fun a => by fin_cases a <;> simp [S1x4x32, S2048x4x32] <;> omega⟩ := by
    unfold b11
    refine Host.dynamicSlice_eq_extractStridedSlice _ _ _ _ _ _ fun a => ?_
    fin_cases a
    · exact toInt_ofNat_of_lt (by omega)
    all_goals rfl
  unfold b12
  rw [e]
  pointwise

/-- The state after the trip: the state before, decayed, and the product of the rows of x and B. -/
theorem b22_apply (j : ℕ) (hj : j < 2048) (s : State Ideal) (v : Fin 2) (b : Fin 4) (d : Fin 1024) (n : Fin 32) :
    b22 j s (ix4 v b d n) = s.main_v21_5 (ix4 v b d n) * s.main_v21_3 (ix3 0 d n)
      + s.main_v21_0 (ix4 ⟨j, hj⟩ v b d) * s.main_v21_1 (ix3 ⟨j, hj⟩ b n) := by
  pointwise [b22, b21, b20, b19, b18, b17, b16, b15, b14, b13, b4_apply j hj, b8_apply j hj]

/-- The row of the result that the trip computes: the state after it, against the row of C. -/
theorem b28_apply (j : ℕ) (hj : j < 2048) (s : State Ideal) (v : Fin 2) (b : Fin 4) (d : Fin 1024) :
    b28 j s (ix3 v b d) = ∑ n : Fin 32, b22 j s (ix4 v b d n) * s.main_v21_2 (ix3 ⟨j, hj⟩ b n) := by
  pointwise [b28, b27, b26, b25, b24, b23, b12_apply j hj]

/-- The trip writes that row and no other. -/
theorem b33_apply (j : ℕ) (hj : j < 2048) (s : State Ideal) (t : Fin 2048) (v : Fin 2) (b : Fin 4) (d : Fin 1024) :
    b33 j s (ix4 t v b d) = if t.val = j then b28 j s (ix3 v b d) else s.main_v21_6 (ix4 t v b d) := by
  have e : b33 j s = updateSlice s.main_v21_6 (b29 j s) ![j, 0, 0, 0]
      ⟨rfl, fun a => by fin_cases a <;> simp [S1x2x4x1024, S2048x2x4x1024] <;> omega⟩ := by
    unfold b33
    refine Host.dynamicUpdateSlice_eq_updateSlice _ _ _ _ _ (fun a => ?_) _
    fin_cases a
    · show (min (max (BitVec.ofNat 32 j).toInt 0) ((2048 - 1 : ℕ) : ℤ)).toNat = j
      rw [toInt_ofNat_of_lt (by omega)]; omega
    all_goals rfl
  rw [e]
  by_cases ht : t.val = j
  · subst ht
    rw [if_pos rfl]
    pointwise [b29]
    exact dif_pos ⟨le_rfl, by omega⟩
  · rw [if_neg ht]
    pointwise
    exact dif_neg fun h => ht (by omega)

/-! ### The state before the first trip -/

section Init
variable (a0 : FVec Ideal S4x2048x1024 .bf16) (a1 : FVec Ideal S1024x32 .bf16) (a2 a3 : FVec Ideal S4x2048x32 .bf16)

theorem init_h (v : Fin 2) (b : Fin 4) (d : Fin 1024) (n : Fin 32) :
    (init (F := Ideal) a0 a1 a2 a3).main_v21_5 (ix4 v b d n) = 0 := by
  pointwise [init, K_main_v18, K_main_v17, K_main_cst_0]

theorem init_A (d : Fin 1024) (n : Fin 32) :
    (init (F := Ideal) a0 a1 a2 a3).main_v21_3 (ix3 0 d n) = Ideal.exp (a1 (ix2 d n)) := by
  pointwise [init, A_main_v13, A_main_v12, A_main_v1]

theorem init_B (t : Fin 2048) (b : Fin 4) (n : Fin 32) :
    (init (F := Ideal) a0 a1 a2 a3).main_v21_1 (ix3 t b n) = a2 (ix3 b t n) := by
  pointwise [init, A_main_v15, A_main_v2]

theorem init_C (t : Fin 2048) (b : Fin 4) (n : Fin 32) :
    (init (F := Ideal) a0 a1 a2 a3).main_v21_2 (ix3 t b n) = a3 (ix3 b t n) := by
  pointwise [init, A_main_v16, A_main_v3]

theorem init_x (t : Fin 2048) (b : Fin 4) (d : Fin 1024) :
    (init (F := Ideal) a0 a1 a2 a3).main_v21_0 (ix4 t 0 b d) = a0 (ix3 b t d) := by
  pointwise [init, A_main_v19, A_main_v14, A_main_v11, A_main_v10, A_main_v9, A_main_v8, A_main_v0]

theorem init_late (t : Fin 2048) (b : Fin 4) (d : Fin 1024) :
    (init (F := Ideal) a0 a1 a2 a3).main_v21_0 (ix4 t 1 b d) = if t.val < 1024 then 0 else a0 (ix3 b t d) := by
  pointwise [init, A_main_v19, A_main_v14, A_main_v11, A_main_v10, A_main_v9, A_main_v8, A_main_v0, K_main_call0_v2, K_main_call0_v1, K_main_call0_v0, K_main_v7, K_main_v6, K_main_v5, K_main_v4, K_main_c, K_main_cst]
  show Scalar.select (BitVec.ofBool ((BitVec.ofNat 32 t.val).slt 1024#32)) (Ideal.ofBits .f32 0x00000000#32) (a0 (ix3 b t d)) = _
  have hlt : (BitVec.ofNat 32 t.val).slt 1024#32 = decide (t.val < 1024) := by
    rw [BitVec.slt, toInt_ofNat_of_lt (by omega)]
    exact decide_eq_decide.2 (by simp)
  rw [hlt, Ideal.ofBits_zero_f32]
  by_cases h : t.val < 1024
  · rw [if_pos h, decide_eq_true h]; rfl
  · rw [if_neg h, decide_eq_false h]; rfl

end Init

/-- The result before position 1152 is the first version's, -/
theorem R_apply_lo (s : State Ideal) (b : Fin 4) (t : Fin 2048) (d : Fin 1024) (h : t.val < 1152) :
    R_main_v28 s (ix3 b t d) = s.main_v21_6 (ix4 t 0 b d) := by
  pointwise [R_main_v28]
  exact dif_pos h

/-- and from there on the second's. -/
theorem R_apply_hi (s : State Ideal) (b : Fin 4) (t : Fin 2048) (d : Fin 1024) (h : ¬ t.val < 1152) :
    R_main_v28 s (ix3 b t d) = s.main_v21_6 (ix4 t 1 b d) := by
  pointwise [R_main_v28]
  rw [dif_neg h]
  exact congrArg (fun i => s.main_v21_6 (ix4 i 1 b d)) (Fin.ext (by show 1152 + (t.val - 1152) = t.val; omega))

end Cert.ReferenceIdeal.Scan

end
-- ==== Proof.RefRun.lean ====
/-
  The reference's run: the loop's valuation holds the states of `Step`, trip by trip, and the result is read off the last.
-/
module

public import proofs.«01_k».proof.Proof.Gen.ReferenceIdeal.Run
public import proofs.«01_k».proof.Proof.Gen.ReferenceIdeal.Step

@[expose] public section

noncomputable section

open Idealize.ShloMosaic Idealize.ShloMosaic.TcCoe Idealize.SL.Sem Idealize.ShloMosaic.StableHlo

namespace Cert.ReferenceIdeal.Scan

open Cert.ReferenceIdeal Cert.ReferenceIdeal.Gen Cert.ReferenceIdeal.Value Cert.ReferenceIdeal.Step

variable {F : FTy → Type} [FloatOps F]

/-- The state a valuation holds. -/
def held (V : Valuation τ sig (Elt F)) : State F :=
  { main_v21_5 := V (Proc.devRef .tc main_v21_5), main_v21_6 := V (Proc.devRef .tc main_v21_6), main_v21_0 := V (Proc.devRef .tc main_v21_0),
    main_v21_1 := V (Proc.devRef .tc main_v21_1), main_v21_2 := V (Proc.devRef .tc main_v21_2), main_v21_3 := V (Proc.devRef .tc main_v21_3) }

/-- A valuation holds a state and the number of the trip to come. -/
def At (V : Valuation τ sig (Elt F)) (s : State F) (j : ℕ) : Prop :=
  held V = s ∧ V (Proc.devRef .tc main_v21_4) = constantI S_ 32 (BitVec.ofNat 32 j)

set_option maxRecDepth 16384 in
theorem step_h (V : Valuation τ sig (Elt F)) (j : ℕ) (hj : V (Proc.devRef .tc main_v21_4) = constantI S_ 32 (BitVec.ofNat 32 j)) :
    Value.step_main_v21_5 V = b22 j (held V) := by
  unfold Value.step_main_v21_5 res_main_while0b_v41
  rw [hj]
  rfl

set_option maxRecDepth 16384 in
theorem step_y (V : Valuation τ sig (Elt F)) (j : ℕ) (hj : V (Proc.devRef .tc main_v21_4) = constantI S_ 32 (BitVec.ofNat 32 j)) :
    Value.step_main_v21_6 V = b33 j (held V) := by
  unfold Value.step_main_v21_6 res_main_while0b_v41
  rw [hj]
  rfl

theorem step_n (V : Valuation τ sig (Elt F)) (j : ℕ) (hj : V (Proc.devRef .tc main_v21_4) = constantI S_ 32 (BitVec.ofNat 32 j)) :
    step_main_v21_4 V = constantI S_ 32 (BitVec.ofNat 32 (j + 1)) := by
  unfold Value.step_main_v21_4
  rw [hj]
  funext i
  show BitVec.ofNat 32 j + 1#32 = BitVec.ofNat 32 (j + 1)
  simp only [BitVec.ofNat_add]

/-- One trip takes the state to the next. -/
theorem At.next {V : Valuation τ sig (Elt F)} {s : State F} {j : ℕ} (h : At V s j) : At (STEP V) (step j s) (j + 1) := by
  obtain ⟨rfl, hj⟩ := h
  refine ⟨?_, (STEP_main_v21_4 V).trans (step_n V j hj)⟩
  unfold held step
  rw [STEP_main_v21_5, STEP_main_v21_6, STEP_main_v21_0, STEP_main_v21_1, STEP_main_v21_2, STEP_main_v21_3, step_h V j hj, step_y V j hj]
  rfl

/-- The state that the operations before the loop leave. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

section Entry
variable (m : (ℓ : Loc nD τ sig) → Buf (Elt F) ℓ) (c : Dev nD)

set_option maxRecDepth 65536
set_option maxHeartbeats 1000000

theorem entry_n : entryContents preI m c (Proc.devRef .tc main_v21_4) = constantI S_ 32 (BitVec.ofNat 32 0) := by
  simp only [entryContents, afterL_cons, afterL_nil]; after_reads_simp; rfl
theorem entry_h : entryContents preI m c (Proc.devRef .tc main_v21_5) = (start m c).main_v21_5 := by
  simp only [entryContents, afterL_cons, afterL_nil]; after_reads_simp; rfl
theorem entry_y : entryContents preI m c (Proc.devRef .tc main_v21_6) = (start m c).main_v21_6 := by
  simp only [entryContents, afterL_cons, afterL_nil]; after_reads_simp; rfl
theorem entry_b : entryContents preI m c (Proc.devRef .tc main_v21_1) = (start m c).main_v21_1 := by
  simp only [entryContents, afterL_cons, afterL_nil]; after_reads_simp; rfl
theorem entry_c : entryContents preI m c (Proc.devRef .tc main_v21_2) = (start m c).main_v21_2 := by
  simp only [entryContents, afterL_cons, afterL_nil]; after_reads_simp; rfl
theorem entry_a : entryContents preI m c (Proc.devRef .tc main_v21_3) = (start m c).main_v21_3 := by
  simp only [entryContents, afterL_cons, afterL_nil]; after_reads_simp; rfl
theorem entry_x : entryContents preI m c (Proc.devRef .tc main_v21_0) = (start m c).main_v21_0 := by
  simp only [entryContents, afterL_cons, afterL_nil]
  after_results_entrywise []

theorem entry_at : At (entryContents preI m c) (start m c) 0 := by
  refine ⟨?_, entry_n m c⟩
  unfold held
  rw [entry_h, entry_y, entry_x, entry_b, entry_c, entry_a]

/-- Before trip `k` the valuation holds the `k`-th of the states that start at `start` and go on by `step`. -/
theorem iter_at (it : ℕ → State F) (h0 : it 0 = start m c) (hs : ∀ n, it (n + 1) = step n (it n)) :
    ∀ k, At (STEP^[k] (entryContents preI m c)) (it k) k
  | 0 => h0 ▸ entry_at m c
  | k + 1 => by
    rw [Function.iterate_succ_apply', hs k]
    exact (iter_at it h0 hs k).next

end Entry

set_option maxRecDepth 16384 in
theorem out_eq (V : Valuation τ sig (Elt F)) : out_main_v28 V = R_main_v28 (held V) := by
  unfold out_main_v28 R_main_v28
  rfl

/-- What the run leaves: the result read off the last of the states, the arguments unchanged. -/
theorem run_states (m : (ℓ : Loc nD τ sig) → Buf (Elt F) ℓ) (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v28) = R_main_v28 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1.trans (out_eq _)).trans (congrArg R_main_v28 (iter_at m c (it c) (h0 c) (hs c) 2048).1), (h c).2⟩) (Value.run m ρ)

end Cert.ReferenceIdeal.Scan

end
-- ==== Proof.RefValue.lean ====
/-
  The reference's value: the scan of real arguments, and what its run leaves.
-/
module

public import proofs.«01_k».proof.Proof.RefStep
public import proofs.«01_k».proof.Proof.Spec
public import proofs.«01_k».proof.Proof.RefRun

@[expose] public section

noncomputable section

open Idealize.ShloMosaic Idealize.ShloMosaic.TcCoe Idealize.SL.Sem

namespace Cert.ReferenceIdeal.Scan

open Cert.ReferenceIdeal Cert.ReferenceIdeal.Gen Cert.ReferenceIdeal.Step Cert.Scan

/-- The states, trip by trip. -/
def iter (a0 : FVec Ideal S4x2048x1024 .bf16) (a1 : FVec Ideal S1024x32 .bf16) (a2 a3 : FVec Ideal S4x2048x32 .bf16) : ℕ → State Ideal
  | 0 => init (F := Ideal) a0 a1 a2 a3
  | j + 1 => step j (iter a0 a1 a2 a3 j)

/-- The arrays hold the real arguments. -/
structure Holds (R : Args) (a0 : FVec Ideal S4x2048x1024 .bf16) (a1 : FVec Ideal S1024x32 .bf16) (a2 a3 : FVec Ideal S4x2048x32 .bf16) : Prop where
  x : ∀ (b : Fin 4) (t : Fin 2048) (d : Fin 1024), a0 (ix3 b t d) = ((R.X b t d : ℝ) : EReal)
  a : ∀ (d : Fin 1024) (n : Fin 32), a1 (ix2 d n) = ((R.A d n : ℝ) : EReal)
  b : ∀ (b : Fin 4) (t : Fin 2048) (n : Fin 32), a2 (ix3 b t n) = ((R.B b t n : ℝ) : EReal)
  c : ∀ (b : Fin 4) (t : Fin 2048) (n : Fin 32), a3 (ix3 b t n) = ((R.C b t n : ℝ) : EReal)

/-- The two versions the reference scans. -/
def ver (v : Fin 2) : Bool := decide (v = 1)

section
variable {R : Args} {a0 : FVec Ideal S4x2048x1024 .bf16} {a1 : FVec Ideal S1024x32 .bf16} {a2 a3 : FVec Ideal S4x2048x32 .bf16}

theorem iter_x : ∀ j, (iter a0 a1 a2 a3 j).main_v21_0 = (init (F := Ideal) a0 a1 a2 a3).main_v21_0
  | 0 => rfl
  | j + 1 => iter_x j
theorem iter_b : ∀ j, (iter a0 a1 a2 a3 j).main_v21_1 = (init (F := Ideal) a0 a1 a2 a3).main_v21_1
  | 0 => rfl
  | j + 1 => iter_b j
theorem iter_c : ∀ j, (iter a0 a1 a2 a3 j).main_v21_2 = (init (F := Ideal) a0 a1 a2 a3).main_v21_2
  | 0 => rfl
  | j + 1 => iter_c j
theorem iter_a : ∀ j, (iter a0 a1 a2 a3 j).main_v21_3 = (init (F := Ideal) a0 a1 a2 a3).main_v21_3
  | 0 => rfl
  | j + 1 => iter_a j

/-- The input of a position, as the trip computes it. -/
theorem input_eq (H : Holds R a0 a1 a2 a3) (j : ℕ) (hj : j < 2048) (v : Fin 2) (b : Fin 4) (d : Fin 1024) (n : Fin 32) :
    (iter a0 a1 a2 a3 j).main_v21_0 (ix4 ⟨j, hj⟩ v b d) * (iter a0 a1 a2 a3 j).main_v21_1 (ix3 ⟨j, hj⟩ b n)
      = ((R.u (ver v) b d n j : ℝ) : EReal) := by
  rw [iter_x, iter_b, init_B, H.b]
  unfold Args.u
  rw [EReal.coe_mul]
  refine congrArg (· * _) ?_
  fin_cases v
  · exact (init_x ..).trans ((H.x ..).trans (by simp [ver]))
  · refine (init_late ..).trans ?_
    rw [H.x]
    by_cases h : j < 1024 <;> simp [ver, h]

/-- The state before trip `j` is the real state of `j` positions. -/
theorem iter_h (H : Holds R a0 a1 a2 a3) : ∀ (j : ℕ) (hj : j ≤ 2048) (v : Fin 2) (b : Fin 4) (d : Fin 1024) (n : Fin 32),
    (iter a0 a1 a2 a3 j).main_v21_5 (ix4 v b d n) = ((R.h (ver v) b d n j : ℝ) : EReal)
  | 0, _, v, b, d, n => init_h ..
  | j + 1, hj, v, b, d, n => by
    show b22 j (iter a0 a1 a2 a3 j) (ix4 v b d n) = _
    rw [b22_apply j (by omega), iter_h H j (by omega), input_eq H, iter_a, init_A, H.a]
    show _ * ((Real.exp (R.A d n) : ℝ) : EReal) + _ = (((R.h (ver v) b d n j) * Real.exp (R.A d n) + R.u (ver v) b d n j : ℝ) : EReal)
    rw [EReal.coe_add, EReal.coe_mul]

/-- Before trip `j` the rows below `j` hold the real results. -/
theorem iter_y (H : Holds R a0 a1 a2 a3) : ∀ (j : ℕ) (hj : j ≤ 2048) (t : Fin 2048) (ht : t.val < j) (v : Fin 2) (b : Fin 4) (d : Fin 1024),
    (iter a0 a1 a2 a3 j).main_v21_6 (ix4 t v b d) = ((R.y (ver v) b t d : ℝ) : EReal)
  | 0, _, t, ht, _, _, _ => absurd ht (by omega)
  | j + 1, hj, t, ht, v, b, d => by
    show b33 j (iter a0 a1 a2 a3 j) (ix4 t v b d) = _
    rw [b33_apply j (by omega)]
    by_cases h : t.val = j
    · have hj' : j < 2048 := by omega
      obtain rfl : t = ⟨j, hj'⟩ := Fin.ext h
      rw [if_pos rfl, b28_apply j (by omega)]
      unfold Args.y
      rw [coe_sum]
      refine Finset.sum_congr rfl fun n _ => ?_
      rw [EReal.coe_mul, iter_c, init_C, H.c]
      exact congrArg (· * _) (iter_h H (j + 1) hj v b d n)
    · rw [if_neg h]
      exact iter_y H j (by omega) t (by omega) v b d

/-- The reference's result. -/
theorem result_eq (H : Holds R a0 a1 a2 a3) (b : Fin 4) (t : Fin 2048) (d : Fin 1024) :
    R_main_v28 (iter a0 a1 a2 a3 2048) (ix3 b t d) = ((R.y (decide (1152 ≤ t.val)) b t d : ℝ) : EReal) := by
  by_cases h : t.val < 1152
  · rw [R_apply_lo _ _ _ _ h, iter_y H 2048 le_rfl t t.isLt, show decide (1152 ≤ t.val) = ver 0 by simp [ver]; omega]
  · rw [R_apply_hi _ _ _ _ h, iter_y H 2048 le_rfl t t.isLt, show decide (1152 ≤ t.val) = ver 1 by simp [ver]; omega]

end

/-- What the reference's run leaves. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28) = R_main_v28 (iter (m ((c.tc : Thread nD τ).loc main_arg0)) (m ((c.tc : Thread nD τ).loc main_arg1))
        (m ((c.tc : Thread nD τ).loc main_arg2)) (m ((c.tc : Thread nD τ).loc main_arg3)) 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_states (F := Ideal) m ρ (fun c => iter (m ((c.tc : Thread nD τ).loc main_arg0)) (m ((c.tc : Thread nD τ).loc main_arg1))
        (m ((c.tc : Thread nD τ).loc main_arg2)) (m ((c.tc : Thread nD τ).loc main_arg3))) (fun c => rfl) (fun c n => rfl)

end Cert.ReferenceIdeal.Scan

end
-- ==== Proof.Algebraic.lean ====
/-
  The idealized kernel's result is, block by block, the reference's.
-/
module

public import proofs.«01_k».proof.Proof.Finite
public import proofs.«01_k».proof.Proof.KernelValue
public import proofs.«01_k».proof.Proof.RefValue
public import proofs.«01_k».proof.Proof.Launch
public import Idealize.ShloMosaic.Lib.Quiescent

@[expose] public section

noncomputable section

namespace Cert.Proof

open Idealize.ShloMosaic Idealize.ShloMosaic.TcCoe Idealize.SL.Sem Cert.Scan

/-- The real arguments the whole arrays hold. -/
def args (a0 : FVec Ideal ⟨3, ![4, 2048, 1024]⟩ .bf16) (a1 : FVec Ideal ⟨2, ![1024, 32]⟩ .bf16) (a2 a3 : FVec Ideal ⟨3, ![4, 2048, 32]⟩ .bf16) : Args where
  X b t d := EReal.toReal (a0 (ix3 b (Fin.ofNat 2048 t) d))
  A d n := EReal.toReal (a1 (ix2 d n))
  B b t n := EReal.toReal (a2 (ix3 b (Fin.ofNat 2048 t) n))
  C b t n := EReal.toReal (a3 (ix3 b (Fin.ofNat 2048 t) n))

/-- Position `t` of the part device `c` holds. -/
def pos (c : Dev Cert.KernelIdeal.nD) (t : Fin 1024) : Fin 2048 :=
  ⟨1024 * (Cert.KernelIdeal.Scan.seqHalf c).val + t.val, by omega⟩

/-- The device whose part holds position `t`, and where in it. -/
def holder (t : Fin 2048) : Dev Cert.KernelIdeal.nD := ⟨2 * (t.val / 1024), by show _ < 4; omega⟩

theorem pos_holder (t : Fin 2048) : pos (holder t) ⟨t.val % 1024, Nat.mod_lt _ (by decide)⟩ = t :=
  Fin.ext (show 1024 * (2 * (t.val / 1024) / 2) + t.val % 1024 = t.val by omega)

theorem ofNat_val (t : Fin 2048) : Fin.ofNat 2048 t.val = t := Fin.ext (Nat.mod_eq_of_lt t.isLt)

/-- A device's block of an array cut along its positions, at an index. -/
theorem block_x (c : Dev Cert.KernelIdeal.nD) (v : (⟨3, ![4, 2048, 1024]⟩ : Shape).Idx → EReal) (b : Fin 4) (t : Fin 1024) (d : Fin 1024) :
    Layout.blockN ⟨3, ![4, 1024, 1024]⟩ ⟨3, ![4, 2048, 1024]⟩ (Layout.meshBlock [2, 2] ![[], [0], []] c) v (by decide) (ix3 b t d) = v (ix3 b (pos c t) d) := by
  refine congrArg v (funext fun a => Fin.ext ?_)
  have hc : c.val < 4 := c.isLt
  fin_cases a
  · exact Nat.zero_add _
  · show (c.val / 2 % 2 * 1 + 0) * 1024 + t.val = 1024 * (c.val / 2) + t.val
    omega
  · exact Nat.zero_add _

theorem block_b (c : Dev Cert.KernelIdeal.nD) (v : (⟨3, ![4, 2048, 32]⟩ : Shape).Idx → EReal) (b : Fin 4) (t : Fin 1024) (n : Fin 32) :
    Layout.blockN ⟨3, ![4, 1024, 32]⟩ ⟨3, ![4, 2048, 32]⟩ (Layout.meshBlock [2, 2] ![[], [0], []] c) v (by decide) (ix3 b t n) = v (ix3 b (pos c t) n) := by
  refine congrArg v (funext fun a => Fin.ext ?_)
  have hc : c.val < 4 := c.isLt
  fin_cases a
  · exact Nat.zero_add _
  · show (c.val / 2 % 2 * 1 + 0) * 1024 + t.val = 1024 * (c.val / 2) + t.val
    omega
  · exact Nat.zero_add _

section
variable {m : (ℓ : Loc Cert.KernelIdeal.nD Cert.KernelIdeal.τ Cert.KernelIdeal.sig) → Buf (Elt Ideal) ℓ}
  {a0 : FVec Ideal ⟨3, ![4, 2048, 1024]⟩ .bf16} {a1 : FVec Ideal ⟨2, ![1024, 32]⟩ .bf16} {a2 a3 : FVec Ideal ⟨3, ![4, 2048, 32]⟩ .bf16}

/-- The devices' arguments are their parts of the whole arrays. -/
structure Parts (m : (ℓ : Loc Cert.KernelIdeal.nD Cert.KernelIdeal.τ Cert.KernelIdeal.sig) → Buf (Elt Ideal) ℓ)
    (a0 : FVec Ideal ⟨3, ![4, 2048, 1024]⟩ .bf16) (a1 : FVec Ideal ⟨2, ![1024, 32]⟩ .bf16) (a2 a3 : FVec Ideal ⟨3, ![4, 2048, 32]⟩ .bf16) : Prop where
  x : ∀ (c : Dev Cert.KernelIdeal.nD) b t d, (m ((c.tc : Thread Cert.KernelIdeal.nD Cert.KernelIdeal.τ).loc Cert.KernelIdeal.main_arg0) : FVec Ideal ⟨3, ![4, 1024, 1024]⟩ .bf16) (ix3 b t d) = a0 (ix3 b (pos c t) d)
  a : ∀ c : Dev Cert.KernelIdeal.nD, (m ((c.tc : Thread Cert.KernelIdeal.nD Cert.KernelIdeal.τ).loc Cert.KernelIdeal.main_arg1) : FVec Ideal ⟨2, ![1024, 32]⟩ .bf16) = a1
  b : ∀ (c : Dev Cert.KernelIdeal.nD) b t n, (m ((c.tc : Thread Cert.KernelIdeal.nD Cert.KernelIdeal.τ).loc Cert.KernelIdeal.main_arg2) : FVec Ideal ⟨3, ![4, 1024, 32]⟩ .bf16) (ix3 b t n) = a2 (ix3 b (pos c t) n)
  c : ∀ (c : Dev Cert.KernelIdeal.nD) b t n, (m ((c.tc : Thread Cert.KernelIdeal.nD Cert.KernelIdeal.τ).loc Cert.KernelIdeal.main_arg3) : FVec Ideal ⟨3, ![4, 1024, 32]⟩ .bf16) (ix3 b t n) = a3 (ix3 b (pos c t) n)

variable [hPre : Cert.Pre_finite_KernelIdeal.Facts]

/-- What the devices hold being finite, the whole arrays hold reals. -/
theorem holds_ref (hm : Cert.Pre_KernelIdeal m) (P : Parts m a0 a1 a2 a3) :
    Cert.ReferenceIdeal.Scan.Holds (args a0 a1 a2 a3) a0 a1 a2 a3 where
  x b t d := by
    have h := Cert.Finite.real0 _ _ _ _ (hm (holder t)).1 (ix3 b ⟨t.val % 1024, Nat.mod_lt _ (by decide)⟩ d)
    rw [P.x, pos_holder] at h
    show _ = ((EReal.toReal (a0 (ix3 b (Fin.ofNat 2048 t.val) d)) : ℝ) : EReal)
    rw [ofNat_val]; exact h
  a d n := by
    have h := Cert.Finite.real1 _ _ _ _ (hm 0).2.1 (ix2 d n)
    rw [P.a] at h
    exact h
  b b t n := by
    have h := Cert.Finite.real2 _ _ _ _ (hm (holder t)).2.2.1 (ix3 b ⟨t.val % 1024, Nat.mod_lt _ (by decide)⟩ n)
    rw [P.b, pos_holder] at h
    show _ = ((EReal.toReal (a2 (ix3 b (Fin.ofNat 2048 t.val) n)) : ℝ) : EReal)
    rw [ofNat_val]; exact h
  c b t n := by
    have h := Cert.Finite.real3 _ _ _ _ (hm (holder t)).2.2.2 (ix3 b ⟨t.val % 1024, Nat.mod_lt _ (by decide)⟩ n)
    rw [P.c, pos_holder] at h
    show _ = ((EReal.toReal (a3 (ix3 b (Fin.ofNat 2048 t.val) n)) : ℝ) : EReal)
    rw [ofNat_val]; exact h

theorem given (P : Parts m a0 a1 a2 a3) {R : Args} (H : Cert.ReferenceIdeal.Scan.Holds R a0 a1 a2 a3) (c : Dev Cert.KernelIdeal.nD) :
    Cert.KernelIdeal.Scan.Given R m c where
  x b t d := (P.x c b t d).trans (H.x b (pos c t) d)
  a d n := (congrFun (P.a c) _).trans (H.a d n)
  b b t n := (P.b c b t n).trans (H.b b (pos c t) n)
  c b t n := (P.c c b t n).trans (H.c b (pos c t) n)

/-- Each device's result is its part of the reference's. -/
theorem result_part (hm : Cert.Pre_KernelIdeal m) (P : Parts m a0 a1 a2 a3) (c : Dev Cert.KernelIdeal.nD) :
    (Cert.KernelIdeal.Gen.V3 m (Cert.KernelIdeal.Scan.outs m) c Cert.KernelIdeal.main_v45 : FVec Ideal ⟨3, ![4, 1024, 1024]⟩ .bf16)
      = Layout.blockN ⟨3, ![4, 1024, 1024]⟩ ⟨3, ![4, 2048, 1024]⟩ (Layout.meshBlock [2, 2] ![[], [0], []] c)
          (Cert.ReferenceIdeal.Step.R_main_v28 (Cert.ReferenceIdeal.Scan.iter a0 a1 a2 a3 2048)) (by decide) := by
  have H := holds_ref hm P
  funext i
  obtain ⟨b, t, d, rfl⟩ : ∃ (b : Fin 4) (t : Fin 1024) (d : Fin 1024), i = ix3 b t d :=
    ⟨i 0, i 1, i 2, funext fun a => by fin_cases a <;> rfl⟩
  rw [block_x, Cert.ReferenceIdeal.Scan.result_eq H]
  exact Cert.KernelIdeal.Scan.v45_apply (given P H) c b t d

end

theorem algebraic [hPre : Cert.Pre_finite_KernelIdeal.Facts] : Cert.algebraic_KernelIdeal_ReferenceIdeal := by
  intro m g m' g' hm hparts
  have P : Parts m _ _ _ _ :=
    { x := fun c b t d => (congrFun (hparts c).1 _).trans (block_x c _ b t d)
      a := fun c => (hparts c).2.1
      b := fun c b t n => (congrFun (hparts c).2.2.1 _).trans (block_b c _ b t n)
      c := fun c b t n => (congrFun (hparts c).2.2.2 _).trans (block_b c _ b t n) }
  refine ⟨_, (θ_run Cert.KernelIdeal.defs _ _).mono (fun r h c => ?_) (Cert.KernelIdeal.Scan.run_main (F := Ideal) m g),
    (θ_run Cert.ReferenceIdeal.defs _ _).mono (fun r h => h 0) (Cert.ReferenceIdeal.Scan.run m' g')⟩
  exact ⟨(h.1 c).2.2.2.2.trans (result_part hm P c), (h.1 c).1, (h.1 c).2.1, (h.1 c).2.2.1, (h.1 c).2.2.2.1⟩

/-- The reference ends, its arguments unchanged; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Scan.run m ρ)

theorem frame_reference_pre [hPre : Cert.Pre_finite_ReferenceIdeal.Facts] : Cert.quiescent_ReferenceIdeal_pre_finite_ReferenceIdeal :=
  fun m ρ _ => frame_reference m ρ True.intro

end Cert.Proof

end
-- ==== Proof.lean ====
module

public import proofs.«01_k».proof.Defs
public import proofs.«01_k».proof.Proof.Frames
public import proofs.«01_k».proof.Proof.Algebraic
public import proofs.«01_k».proof.Proof.Gen.ReferenceIdeal
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Finite.facts_Kernel, Cert.Finite.facts_Reference,
    frame_kernel, frame_ideal_pre, frame_ideal, frame_reference,
    frame_reference_pre, trivial, algebraic⟩

end Cert.Proof

end
